-- ==== Defs.lean ====
def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateRefIdeal (m : (ℓ : Loc Cert.RotateRefIdeal.nD Cert.RotateRefIdeal.τ Cert.RotateRefIdeal.sig) → Buf (Elt Ideal) ℓ) : Prop :=
  True

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3))
      ∧ r.2.sem = fun _ => 0)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0))
      ∧ r.2.sem = fun _ => 0)

def quiescent_RotateRefIdeal [hRotateRefIdeal : Cert.RotateRefIdeal.Facts] : Prop :=
  ∀ (m : (ℓ : Loc Cert.RotateRefIdeal.nD Cert.RotateRefIdeal.τ Cert.RotateRefIdeal.sig) → Buf (Elt Ideal) ℓ) (g : Dev Cert.RotateRefIdeal.nD → PrngReg), Pre_RotateRefIdeal m →
    θ_run (Cert.RotateRefIdeal.defs (F := Ideal)) (onTc (τ := Cert.RotateRefIdeal.τ) (Cert.RotateRefIdeal.main (F := Ideal))) ⟨m, fun _ => 0, g⟩ (fun r => (∀ c : Dev Cert.RotateRefIdeal.nD,
      r.2.mem ((c.tc : Thread Cert.RotateRefIdeal.nD Cert.RotateRefIdeal.τ).loc Cert.RotateRefIdeal.main_arg0) = m ((c.tc : Thread Cert.RotateRefIdeal.nD Cert.RotateRefIdeal.τ).loc Cert.RotateRefIdeal.main_arg0))
      ∧ r.2.sem = fun _ => 0)

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v33) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3))

def preserves_Rotate_RotateIdeal : Prop :=
  IdealRules.bf16_pair.BufferStatement Cert.RotateIdeal.S2x7680x2x128 Cert.RotateIdeal.S2x7680x1x128
  ∧ IdealRules.bf16_pair.Statement Cert.RotateIdeal.S1x1x40x2x128 Cert.RotateIdeal.S1x1x40x1x128
  ∧ IdealRules.bf16_pair.PackStatement Cert.RotateIdeal.S8x128
  ∧ IdealRules.bf16_pair.Statement Cert.RotateIdeal.S256x128 Cert.RotateIdeal.S128x128
  ∧ IdealRules.bf16_pair.PackStatement Cert.RotateIdeal.S128x128
  ∧ IdealRules.bf16_pair.Statement Cert.RotateIdeal.S1x128x2x128 Cert.RotateIdeal.S1x128x1x128
  ∧ IdealRules.bf16_pair.Statement Cert.RotateIdeal.S1x240x2x128 Cert.RotateIdeal.S1x240x1x128
  ∧ IdealRules.bf16_pair.Statement Cert.RotateIdeal.S480x128 Cert.RotateIdeal.S240x128

def algebraic_RotateIdeal_RotateRefIdeal [hRotateIdeal : Cert.RotateIdeal.Facts] [hRotateRefIdeal : Cert.RotateRefIdeal.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RotateRefIdeal.nD Cert.RotateRefIdeal.τ Cert.RotateRefIdeal.sig) → Buf (Elt Ideal) ℓ) (g' : Dev Cert.RotateRefIdeal.nD → PrngReg), Pre_RotateIdeal m →
    (∀ c : Dev Cert.RotateIdeal.nD,
      m' ((c.tc : Thread Cert.RotateRefIdeal.nD Cert.RotateRefIdeal.τ).loc Cert.RotateRefIdeal.main_arg0) = m ((c.tc : Thread Cert.RotateIdeal.nD Cert.RotateIdeal.τ).loc Cert.RotateIdeal.main_arg0)) →
    ∃ (v0 : (c : Dev Cert.RotateIdeal.nD) → Buf (Elt Ideal) ((c.tc : Thread Cert.RotateIdeal.nD Cert.RotateIdeal.τ).loc Cert.RotateIdeal.main_v5)) (v1 : (c : Dev Cert.RotateIdeal.nD) → Buf (Elt Ideal) ((c.tc : Thread Cert.RotateIdeal.nD Cert.RotateIdeal.τ).loc Cert.RotateIdeal.main_v4)) (v2 : (c : Dev Cert.RotateIdeal.nD) → Buf (Elt Ideal) ((c.tc : Thread Cert.RotateIdeal.nD Cert.RotateIdeal.τ).loc Cert.RotateIdeal.main_v1_1)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v5) = v0 c
          ∧ r.2.mem ((c.tc : Thread Cert.RotateIdeal.nD Cert.RotateIdeal.τ).loc Cert.RotateIdeal.main_v4) = v1 c
          ∧ r.2.mem ((c.tc : Thread Cert.RotateIdeal.nD Cert.RotateIdeal.τ).loc Cert.RotateIdeal.main_v1_1) = v2 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0))
      ∧ θ_run (Cert.RotateRefIdeal.defs (F := Ideal)) (onTc (τ := Cert.RotateRefIdeal.τ) (Cert.RotateRefIdeal.main (F := Ideal))) ⟨m', fun _ => 0, g'⟩ (fun r => ∀ c : Dev Cert.RotateRefIdeal.nD,
          r.2.mem ((c.tc : Thread Cert.RotateRefIdeal.nD Cert.RotateRefIdeal.τ).loc Cert.RotateRefIdeal.main_v18) = v0 c
          ∧ r.2.mem ((c.tc : Thread Cert.RotateRefIdeal.nD Cert.RotateRefIdeal.τ).loc Cert.RotateRefIdeal.main_v11) = v1 c
          ∧ r.2.mem ((c.tc : Thread Cert.RotateRefIdeal.nD Cert.RotateRefIdeal.τ).loc Cert.RotateRefIdeal.main_v20) = v2 c
          ∧ r.2.mem ((c.tc : Thread Cert.RotateRefIdeal.nD Cert.RotateRefIdeal.τ).loc Cert.RotateRefIdeal.main_arg0) = m' ((c.tc : Thread Cert.RotateRefIdeal.nD Cert.RotateRefIdeal.τ).loc Cert.RotateRefIdeal.main_arg0))

def Claim : Prop :=
  ∃ (hProject : Cert.Project.Facts) (hProjectIdeal : Cert.ProjectIdeal.Facts) (hProjectRefIdeal : Cert.ProjectRefIdeal.Facts) (hRotate : Cert.Rotate.Facts) (hRotateIdeal : Cert.RotateIdeal.Facts) (hRotateRefIdeal : Cert.RotateRefIdeal.Facts),
    quiescent_Project (hProject := hProject)
    ∧ quiescent_ProjectIdeal (hProjectIdeal := hProjectIdeal)
    ∧ quiescent_ProjectRefIdeal (hProjectRefIdeal := hProjectRefIdeal)
    ∧ quiescent_Rotate (hRotate := hRotate)
    ∧ quiescent_RotateIdeal (hRotateIdeal := hRotateIdeal)
    ∧ quiescent_RotateRefIdeal (hRotateRefIdeal := hRotateRefIdeal)
    ∧ preserves_Project_ProjectIdeal
    ∧ algebraic_ProjectIdeal_ProjectRefIdeal (hProjectIdeal := hProjectIdeal) (hProjectRefIdeal := hProjectRefIdeal)
    ∧ preserves_Rotate_RotateIdeal
    ∧ algebraic_RotateIdeal_RotateRefIdeal (hRotateIdeal := hRotateIdeal) (hRotateRefIdeal := hRotateRefIdeal)
-- ==== Project.lean ====
abbrev S1920x7680 : Shape := ⟨2, ![1920, 7680]⟩
abbrev S1920 : Shape := ⟨1, ![1920]⟩
abbrev S7680x3840 : Shape := ⟨2, ![7680, 3840]⟩
abbrev S7680 : Shape := ⟨1, ![7680]⟩
abbrev S1920x1 : Shape := ⟨2, ![1920, 1]⟩
abbrev S1920x128 : Shape := ⟨2, ![1920, 128]⟩
abbrev S1x7680 : Shape := ⟨2, ![1, 7680]⟩
abbrev S256x3840 : Shape := ⟨2, ![256, 3840]⟩
abbrev S1x256 : Shape := ⟨2, ![1, 256]⟩
abbrev S1920x256 : Shape := ⟨2, ![1920, 256]⟩
abbrev S256x7680 : Shape := ⟨2, ![256, 7680]⟩
abbrev S32x7680 : Shape := ⟨2, ![32, 7680]⟩
abbrev S64x3840 : Shape := ⟨2, ![64, 3840]⟩
abbrev S480x7680 : Shape := ⟨2, ![480, 7680]⟩
abbrev S480x256 : Shape := ⟨2, ![480, 256]⟩
abbrev S480x128 : Shape := ⟨2, ![480, 128]⟩

abbrev nBuf : Space → Nat
  | .hbm => 8
  | .vmem => 10
  | .smem => 0
  | _ => 0

abbrev bufTy : (tb : Table) → Fin (tcTables nBuf tb) → BufTy
  | .hbm, ⟨0, _⟩ => ⟨S1920x7680, .i8⟩
  | .hbm, ⟨1, _⟩ => ⟨S1920, .f32⟩
  | .hbm, ⟨2, _⟩ => ⟨S7680x3840, .i8⟩
  | .hbm, ⟨3, _⟩ => ⟨S7680, .f32⟩
  | .hbm, ⟨4, _⟩ => ⟨S1920x1, .f32⟩
  | .hbm, ⟨5, _⟩ => ⟨S1920x128, .f32⟩
  | .hbm, ⟨6, _⟩ => ⟨S1x7680, .f32⟩
  | .hbm, ⟨7, _⟩ => ⟨S1920x7680, .bf16⟩
  | .local _ .vmem, ⟨0, _⟩ => ⟨S1920x7680, .i8⟩
  | .local _ .vmem, ⟨1, _⟩ => ⟨S256x3840, .i8⟩
  | .local _ .vmem, ⟨2, _⟩ => ⟨S256x3840, .i8⟩
  | .local _ .vmem, ⟨3, _⟩ => ⟨S1920x128, .f32⟩
  | .local _ .vmem, ⟨4, _⟩ => ⟨S1x256, .f32⟩
  | .local _ .vmem, ⟨5, _⟩ => ⟨S1x256, .f32⟩
  | .local _ .vmem, ⟨6, _⟩ => ⟨S1920x256, .bf16⟩
  | .local _ .vmem, ⟨7, _⟩ => ⟨S1920x256, .bf16⟩
  | .local _ .vmem, ⟨8, _⟩ => ⟨S1920x7680, .bf16⟩
  | .local _ .vmem, ⟨9, _⟩ => ⟨S256x7680, .bf16⟩
  | _, _ => ⟨S1920x7680, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![30], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_50 : BitVec 32 := 0#32
  let c60_i32 : BitVec 32 := 60#32
  let v81 : BitVec 32 := Scalar.addi c0_i32_50 c60_i32
  let c1_i32 : BitVec 32 := 1#32
  ⟨c0_i32_50, v81, c1_i32⟩
def k0_mult1 (k0_t1 : Fin k0_t1_loop.trips) : BitVec 32 :=
  let c0_i32_50 : BitVec 32 := 0#32
  let c1_i32 : BitVec 32 := 1#32
  let arg8 : BitVec 32 := Scf.iv c0_i32_50 c1_i32 k0_t1
  let c32_i32 : BitVec 32 := 32#32
  let v82 : BitVec 32 := Scalar.muli arg8 c32_i32
  v82
def k0_off1 (k0_t1 : Fin k0_t1_loop.trips) : Fin 2 → Nat :=
  let c0_i32_50 : BitVec 32 := 0#32
  let c1_i32 : BitVec 32 := 1#32
  let arg8 : BitVec 32 := Scf.iv c0_i32_50 c1_i32 k0_t1
  let c32_i32 : BitVec 32 := 32#32
  let v82 : BitVec 32 := Scalar.muli arg8 c32_i32
  let v83 : BitVec 32 := v82
  let v84 : Index := Scalar.indexCast v83
  let c0_52 : Index := 0#32
  ![v84.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1920x7680 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3840 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1920x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1920x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjectRefIdeal.lean ====
abbrev S1920x7680 : Shape := ⟨2, ![1920, 7680]⟩
abbrev S1920 : Shape := ⟨1, ![1920]⟩
abbrev S7680x3840 : Shape := ⟨2, ![7680, 3840]⟩
abbrev S7680 : Shape := ⟨1, ![7680]⟩
abbrev S_ : Shape := ⟨0, ![]⟩
abbrev S1920x3840 : Shape := ⟨2, ![1920, 3840]⟩
abbrev S1920x1 : Shape := ⟨2, ![1920, 1]⟩
abbrev S1x7680 : Shape := ⟨2, ![1, 7680]⟩

abbrev nBuf : Space → Nat
  | .hbm => 44
  | .vmem => 0
  | .smem => 0
  | _ => 0

abbrev bufTy : (tb : Table) → Fin (tcTables nBuf tb) → BufTy
  | .hbm, ⟨0, _⟩ => ⟨S1920x7680, .i8⟩
  | .hbm, ⟨1, _⟩ => ⟨S1920, .f32⟩
  | .hbm, ⟨2, _⟩ => ⟨S7680x3840, .i8⟩
  | .hbm, ⟨3, _⟩ => ⟨S7680, .f32⟩
  | .hbm, ⟨4, _⟩ => ⟨S7680x3840, .i32⟩
  | .hbm, ⟨5, _⟩ => ⟨S_, .i32⟩
  | .hbm, ⟨6, _⟩ => ⟨S7680x3840, .i32⟩
  | .hbm, ⟨7, _⟩ => ⟨S7680x3840, .i32⟩
  | .hbm, ⟨8, _⟩ => ⟨S_, .i32⟩
  | .hbm, ⟨9, _⟩ => ⟨S7680x3840, .i32⟩
  | .hbm, ⟨10, _⟩ => ⟨S7680x3840, .i1⟩
  | .hbm, ⟨11, _⟩ => ⟨S7680x3840, .i32⟩
  | .hbm, ⟨12, _⟩ => ⟨S_, .i32⟩
  | .hbm, ⟨13, _⟩ => ⟨S7680x3840, .i32⟩
  | .hbm, ⟨14, _⟩ => ⟨S7680x3840, .i32⟩
  | .hbm, ⟨15, _⟩ => ⟨S7680x3840, .i32⟩
  | .hbm, ⟨16, _⟩ => ⟨S7680x3840, .bf16⟩
  | .hbm, ⟨17, _⟩ => ⟨S7680x3840, .i32⟩
  | .hbm, ⟨18, _⟩ => ⟨S_, .i32⟩
  | .hbm, ⟨19, _⟩ => ⟨S7680x3840, .i32⟩
  | .hbm, ⟨20, _⟩ => ⟨S7680x3840, .i32⟩
  | .hbm, ⟨21, _⟩ => ⟨S_, .i32⟩
  | .hbm, ⟨22, _⟩ => ⟨S7680x3840, .i32⟩
  | .hbm, ⟨23, _⟩ => ⟨S7680x3840, .i1⟩
  | .hbm, ⟨24, _⟩ => ⟨S7680x3840, .i32⟩
  | .hbm, ⟨25, _⟩ => ⟨S_, .i32⟩
  | .hbm, ⟨26, _⟩ => ⟨S7680x3840, .i32⟩
  | .hbm, ⟨27, _⟩ => ⟨S7680x3840, .i32⟩
  | .hbm, ⟨28, _⟩ => ⟨S7680x3840, .i32⟩
  | .hbm, ⟨29, _⟩ => ⟨S7680x3840, .bf16⟩
  | .hbm, ⟨30, _⟩ => ⟨S1920x7680, .i32⟩
  | .hbm, ⟨31, _⟩ => ⟨S1920x7680, .bf16⟩
  | .hbm, ⟨32, _⟩ => ⟨S1920x3840, .bf16⟩
  | .hbm, ⟨33, _⟩ => ⟨S1920x7680, .f32⟩
  | .hbm, ⟨34, _⟩ => ⟨S1920x3840, .bf16⟩
  | .hbm, ⟨35, _⟩ => ⟨S1920x7680, .f32⟩
  | .hbm, ⟨36, _⟩ => ⟨S1920x7680, .f32⟩
  | .hbm, ⟨37, _⟩ => ⟨S1920x1, .f32⟩
  | .hbm, ⟨38, _⟩ => ⟨S1920x7680, .f32⟩
  | .hbm, ⟨39, _⟩ => ⟨S1920x7680, .f32⟩
  | .hbm, ⟨40, _⟩ => ⟨S1x7680, .f32⟩
  | .hbm, ⟨41, _⟩ => ⟨S1920x7680, .f32⟩
  | .hbm, ⟨42, _⟩ => ⟨S1920x7680, .f32⟩
  | .hbm, ⟨43, _⟩ => ⟨S1920x7680, .bf16⟩
  | _, _ => ⟨S1920x7680, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Rotate.lean ====
abbrev S3x640x128x60 : Shape := ⟨4, ![3, 640, 128, 60]⟩
abbrev S240x240 : Shape := ⟨2, ![240, 240]⟩
abbrev S3x60x640x128 : Shape := ⟨4, ![3, 60, 640, 128]⟩
abbrev S1920x7680 : Shape := ⟨2, ![1920, 7680]⟩
abbrev S1920x128 : Shape := ⟨2, ![1920, 128]⟩
abbrev S4x4x128 : Shape := ⟨3, ![4, 4, 128]⟩
abbrev S1x60x160x128 : Shape := ⟨4, ![1, 60, 160, 128]⟩
abbrev S480x7680 : Shape := ⟨2, ![480, 7680]⟩
abbrev S480x128 : Shape := ⟨2, ![480, 128]⟩
abbrev S1x4x128 : Shape := ⟨3, ![1, 4, 128]⟩
abbrev S2x7680x128 : Shape := ⟨3, ![2, 7680, 128]⟩
abbrev S2x7680x256 : Shape := ⟨3, ![2, 7680, 256]⟩
abbrev S1x60x80x128 : Shape := ⟨4, ![1, 60, 80, 128]⟩
abbrev S1x1x40x128 : Shape := ⟨4, ![1, 1, 40, 128]⟩
abbrev S1x60x80x2x128 : Shape := ⟨5, ![1, 60, 80, 2, 128]⟩
abbrev S1x1x40x2x128 : Shape := ⟨5, ![1, 1, 40, 2, 128]⟩
abbrev S1x1x40x1x128 : Shape := ⟨5, ![1, 1, 40, 1, 128]⟩
abbrev S40x128 : Shape := ⟨2, ![40, 128]⟩
abbrev S8x128 : Shape := ⟨2, ![8, 128]⟩
abbrev S128x128 : Shape := ⟨2, ![128, 128]⟩
abbrev S1x128x128 : Shape := ⟨3, ![1, 128, 128]⟩
abbrev S8x256 : Shape := ⟨2, ![8, 256]⟩
abbrev S1x240x128 : Shape := ⟨3, ![1, 240, 128]⟩
abbrev S240x128 : Shape := ⟨2, ![240, 128]⟩
abbrev S240x256 : Shape := ⟨2, ![240, 256]⟩
abbrev S1x240x256 : Shape := ⟨3, ![1, 240, 256]⟩
abbrev S30x8x256 : Shape := ⟨3, ![30, 8, 256]⟩
abbrev S256 : Shape := ⟨1, ![256]⟩
abbrev S1x256 : Shape := ⟨2, ![1, 256]⟩
abbrev S1x128 : Shape := ⟨2, ![1, 128]⟩
abbrev S1x1x128 : Shape := ⟨3, ![1, 1, 128]⟩
abbrev S120x128 : Shape := ⟨2, ![120, 128]⟩
abbrev S4x4x120 : Shape := ⟨3, ![4, 4, 120]⟩
abbrev S4x120x4 : Shape := ⟨3, ![4, 120, 4]⟩
abbrev S3x640 : Shape := ⟨2, ![3, 640]⟩
abbrev S3x640x7680 : Shape := ⟨3, ![3, 640, 7680]⟩

abbrev nBuf : Space → Nat
  | .hbm => 10
  | .vmem => 15
  | .smem => 0
  | _ => 0

abbrev bufTy : (tb : Table) → Fin (tcTables nBuf tb) → BufTy
  | .hbm, ⟨0, _⟩ => ⟨S3x640x128x60, .bf16⟩
  | .hbm, ⟨1, _⟩ => ⟨S240x240, .bf16⟩
  | .hbm, ⟨2, _⟩ => ⟨S3x60x640x128, .bf16⟩
  | .hbm, ⟨3, _⟩ => ⟨S1920x7680, .i8⟩
  | .hbm, ⟨4, _⟩ => ⟨S1920x128, .f32⟩
  | .hbm, ⟨5, _⟩ => ⟨S4x4x128, .f32⟩
  | .hbm, ⟨6, _⟩ => ⟨S4x4x120, .f32⟩
  | .hbm, ⟨7, _⟩ => ⟨S4x120x4, .f32⟩
  | .hbm, ⟨8, _⟩ => ⟨S3x640, .f32⟩
  | .hbm, ⟨9, _⟩ => ⟨S3x640x7680, .i8⟩
  | .local _ .vmem, ⟨0, _⟩ => ⟨S1x60x160x128, .bf16⟩
  | .local _ .vmem, ⟨1, _⟩ => ⟨S1x60x160x128, .bf16⟩
  | .local _ .vmem, ⟨2, _⟩ => ⟨S1x60x160x128, .bf16⟩
  | .local _ .vmem, ⟨3, _⟩ => ⟨S1x60x160x128, .bf16⟩
  | .local _ .vmem, ⟨4, _⟩ => ⟨S1x60x160x128, .bf16⟩
  | .local _ .vmem, ⟨5, _⟩ => ⟨S1x60x160x128, .bf16⟩
  | .local _ .vmem, ⟨6, _⟩ => ⟨S240x240, .bf16⟩
  | .local _ .vmem, ⟨7, _⟩ => ⟨S480x7680, .i8⟩
  | .local _ .vmem, ⟨8, _⟩ => ⟨S480x7680, .i8⟩
  | .local _ .vmem, ⟨9, _⟩ => ⟨S480x128, .f32⟩
  | .local _ .vmem, ⟨10, _⟩ => ⟨S480x128, .f32⟩
  | .local _ .vmem, ⟨11, _⟩ => ⟨S1x4x128, .f32⟩
  | .local _ .vmem, ⟨12, _⟩ => ⟨S1x4x128, .f32⟩
  | .local _ .vmem, ⟨13, _⟩ => ⟨S2x7680x128, .i32⟩
  | .local _ .vmem, ⟨14, _⟩ => ⟨S2x7680x256, .f32⟩
  | _, _ => ⟨S3x640x128x60, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨1, ![4], ![false]⟩

@[reducible] def k0_t1_loop : Scf.Loop 32 :=
  let c0_i32 : BitVec 32 := 0#32
  let c60_i32 : BitVec 32 := 60#32
  let v0 : BitVec 32 := Scalar.addi c0_i32 c60_i32
  let c1_i32 : BitVec 32 := 1#32
  ⟨c0_i32, v0, c1_i32⟩
def k0_off1 (k0_t1 : Fin k0_t1_loop.trips) : Fin 5 → Nat :=
  let c0_33 : Index := 0#32
  let c0_i32 : BitVec 32 := 0#32
  let c1_i32 : BitVec 32 := 1#32
  let arg10 : BitVec 32 := Scf.iv c0_i32 c1_i32 k0_t1
  let v58 : Index := Scalar.indexCast arg10
  let c0_34 : Index := 0#32
  let c0_35 : Index := 0#32
  ![0, v58.toNat, 0, 0, 0]
def k0_off2 (k0_t1 : Fin k0_t1_loop.trips) : Fin 3 → Nat :=
  let c0_43 : Index := 0#32
  let c0_i32 : BitVec 32 := 0#32
  let c1_i32 : BitVec 32 := 1#32
  let arg10 : BitVec 32 := Scf.iv c0_i32 c1_i32 k0_t1
  let v81 : Index := Scalar.indexCast arg10
  let c0_44 : Index := 0#32
  ![0, v81.toNat, 0]
def k0_off3 (k0_t1 : Fin k0_t1_loop.trips) : Fin 5 → Nat :=
  let c0_45 : Index := 0#32
  let c0_i32 : BitVec 32 := 0#32
  let c1_i32 : BitVec 32 := 1#32
  let arg10 : BitVec 32 := Scf.iv c0_i32 c1_i32 k0_t1
  let v86 : Index := Scalar.indexCast arg10
  let c1_46 : Index := 1#32
  let c0_47 : Index := 0#32
  ![0, v86.toNat, 1, 0, 0]
def k0_off4 (k0_t1 : Fin k0_t1_loop.trips) : Fin 3 → Nat :=
  let c1_57 : Index := 1#32
  let c0_i32 : BitVec 32 := 0#32
  let c1_i32 : BitVec 32 := 1#32
  let arg10 : BitVec 32 := Scf.iv c0_i32 c1_i32 k0_t1
  let v109 : Index := Scalar.indexCast arg10
  let c0_58 : Index := 0#32
  ![1, v109.toNat, 0]
@[reducible] def k0_t2_loop : Scf.Loop 32 :=
  let c0_i32_2 : BitVec 32 := 0#32
  let c32_i32 : BitVec 32 := 32#32
  let v2 : BitVec 32 := Scalar.addi c0_i32_2 c32_i32
  let c1_i32_3 : BitVec 32 := 1#32
  ⟨c0_i32_2, v2, c1_i32_3⟩
def k0_off5 (k0_t2 : Fin k0_t2_loop.trips) : Fin 3 → Nat :=
  let c0_33 : Index := 0#32
  let c0_i32_2 : BitVec 32 := 0#32
  let c1_i32_3 : BitVec 32 := 1#32
  let arg10 : BitVec 32 := Scf.iv c0_i32_2 c1_i32_3 k0_t2
  let c240_i32 : BitVec 32 := 240#32
  let v57 : BitVec 32 := Scalar.muli arg10 c240_i32
  let v58 : Index := Scalar.indexCast v57
  let c0_34 : Index := 0#32
  ![0, v58.toNat, 0]
def k0_off6 (k0_t2 : Fin k0_t2_loop.trips) : Fin 3 → Nat :=
  let c0_39 : Index := 0#32
  let c0_i32_2 : BitVec 32 := 0#32
  let c1_i32_3 : BitVec 32 := 1#32
  let arg10 : BitVec 32 := Scf.iv c0_i32_2 c1_i32_3 k0_t2
  let c240_i32_38 : BitVec 32 := 240#32
  let v74 : BitVec 32 := Scalar.muli arg10 c240_i32_38
  let v75 : Index := Scalar.indexCast v74
  let c0_40 : Index := 0#32
  ![0, v75.toNat, 0]
def k0_off7 (k0_t2 : Fin k0_t2_loop.trips) : Fin 3 → Nat :=
  let c1_43 : Index := 1#32
  let c0_i32_2 : BitVec 32 := 0#32
  let c1_i32_3 : BitVec 32 := 1#32
  let arg10 : BitVec 32 := Scf.iv c0_i32_2 c1_i32_3 k0_t2
  let c240_i32_42 : BitVec 32 := 240#32
  let v83 : BitVec 32 := Scalar.muli arg10 c240_i32_42
  let v84 : Index := Scalar.indexCast v83
  let c0_44 : Index := 0#32
  ![1, v84.toNat, 0]
def k0_off8 (k0_t2 : Fin k0_t2_loop.trips) : Fin 3 → Nat :=
  let c1_51 : Index := 1#32
  let c0_i32_2 : BitVec 32 := 0#32
  let c1_i32_3 : BitVec 32 := 1#32
  let arg10 : BitVec 32 := Scf.iv c0_i32_2 c1_i32_3 k0_t2
  let c240_i32_50 : BitVec 32 := 240#32
  let v100 : BitVec 32 := Scalar.muli arg10 c240_i32_50
  let v101 : Index := Scalar.indexCast v100
  let c0_52 : Index := 0#32
  ![1, v101.toNat, 0]
@[reducible] def k0_t3_loop : Scf.Loop 32 :=
  let c0_i32_29 : BitVec 32 := 0#32
  let c60_i32_30 : BitVec 32 := 60#32
  let v56 : BitVec 32 := Scalar.addi c0_i32_29 c60_i32_30
  let c1_i32_31 : BitVec 32 := 1#32
  ⟨c0_i32_29, v56, c1_i32_31⟩
def k0_off9 (k0_t3 : Fin k0_t3_loop.trips) : Fin 3 → Nat :=
  let c0_33 : Index := 0#32
  let c0_i32_29 : BitVec 32 := 0#32
  let c1_i32_31 : BitVec 32 := 1#32
  let arg10 : BitVec 32 := Scf.iv c0_i32_29 c1_i32_31 k0_t3
  let c128_i32 : BitVec 32 := 128#32
  let v57 : BitVec 32 := Scalar.muli arg10 c128_i32
  let v58 : Index := Scalar.indexCast v57
  let c0_34 : Index := 0#32
  ![0, v58.toNat, 0]
def k0_off10 (k0_t3 : Fin k0_t3_loop.trips) : Fin 3 → Nat :=
  let c0_37 : Index := 0#32
  let c0_i32_29 : BitVec 32 := 0#32
  let c1_i32_31 : BitVec 32 := 1#32
  let arg10 : BitVec 32 := Scf.iv c0_i32_29 c1_i32_31 k0_t3
  let c128_i32_36 : BitVec 32 := 128#32
  let v75 : BitVec 32 := Scalar.muli arg10 c128_i32_36
  let v76 : Index := Scalar.indexCast v75
  let c128 : Index := 128#32
  ![0, v76.toNat, 128]
def k0_off11 (k0_t3 : Fin k0_t3_loop.trips) : Fin 3 → Nat :=
  let c1_42 : Index := 1#32
  let c0_i32_29 : BitVec 32 := 0#32
  let c1_i32_31 : BitVec 32 := 1#32
  let arg10 : BitVec 32 := Scf.iv c0_i32_29 c1_i32_31 k0_t3
  let c128_i32_41 : BitVec 32 := 128#32
  let v94 : BitVec 32 := Scalar.muli arg10 c128_i32_41
  let v95 : Index := Scalar.indexCast v94
  let c0_43 : Index := 0#32
  ![1, v95.toNat, 0]
def k0_off12 (k0_t3 : Fin k0_t3_loop.trips) : Fin 3 → Nat :=
  let c1_48 : Index := 1#32
  let c0_i32_29 : BitVec 32 := 0#32
  let c1_i32_31 : BitVec 32 := 1#32
  let arg10 : BitVec 32 := Scf.iv c0_i32_29 c1_i32_31 k0_t3
  let c128_i32_47 : BitVec 32 := 128#32
  let v113 : BitVec 32 := Scalar.muli arg10 c128_i32_47
  let v114 : Index := Scalar.indexCast v113
  let c128_49 : Index := 128#32
  ![1, v114.toNat, 128]
def k0_mult1 (k0_t3 : Fin k0_t3_loop.trips) : BitVec 32 :=
  let c0_i32_29 : BitVec 32 := 0#32
  let c1_i32_31 : BitVec 32 := 1#32
  let arg10 : BitVec 32 := Scf.iv c0_i32_29 c1_i32_31 k0_t3
  let c128_i32_53 : BitVec 32 := 128#32
  let v132 : BitVec 32 := Scalar.muli arg10 c128_i32_53
  v132
def k0_off13 (k0_t3 : Fin k0_t3_loop.trips) : Fin 2 → Nat :=
  let c0_54 : Index := 0#32
  let c0_i32_29 : BitVec 32 := 0#32
  let c1_i32_31 : BitVec 32 := 1#32
  let arg10 : BitVec 32 := Scf.iv c0_i32_29 c1_i32_31 k0_t3
  let c128_i32_53 : BitVec 32 := 128#32
  let v132 : BitVec 32 := Scalar.muli arg10 c128_i32_53
  let v133 : BitVec 32 := v132
  let v137 : Index := Scalar.indexCast v133
  ![0, v137.toNat]
def cc0_transform_0 (i : grid0.Coords) : Fin 4 → Nat :=
  let arg0 : BitVec 32 := BitVec.ofNat 32 (i 0).val
  let c3_i32 : BitVec 32 := 3#32
  let v0 : BitVec 32 := Scalar.muli c3_i32 arg0
  let c0_i32 : BitVec 32 := 0#32
  let v1 : BitVec 32 := Scalar.addi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32_5 : BitVec 32 := 3#32
  let v19 : BitVec 32 := Scalar.muli c3_i32_5 arg0
  let c0_i32_6 : BitVec 32 := 0#32
  let v20 : BitVec 32 := Scalar.addi v19 c0_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  let c0_i32_15 : BitVec 32 := 0#32
  ![v18.toNat, c0_i32_13.toNat, v30.toNat, c0_i32_14.toNat]

def cc0_transform_1 (i : grid0.Coords) : Fin 4 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.addi v0 c1_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c3_i32_5 : BitVec 32 := 3#32
  let v19 : BitVec 32 := Scalar.muli c3_i32_5 arg0
  let c1_i32_6 : BitVec 32 := 1#32
  let v20 : BitVec 32 := Scalar.addi v19 c1_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  let c0_i32_15 : BitVec 32 := 0#32
  ![v18.toNat, c0_i32_13.toNat, v30.toNat, c0_i32_14.toNat]

def cc0_transform_2 (i : grid0.Coords) : Fin 4 → Nat :=
  let arg0 : BitVec 32 := BitVec.ofNat 32 (i 0).val
  let c3_i32 : BitVec 32 := 3#32
  let v0 : BitVec 32 := Scalar.muli c3_i32 arg0
  let c2_i32 : BitVec 32 := 2#32
  let v1 : BitVec 32 := Scalar.addi v0 c2_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c3_i32_4 : BitVec 32 := 3#32
  let v19 : BitVec 32 := Scalar.muli c3_i32_4 arg0
  let c2_i32_5 : BitVec 32 := 2#32
  let v20 : BitVec 32 := Scalar.addi v19 c2_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  let c0_i32_14 : BitVec 32 := 0#32
  ![v18.toNat, c0_i32_12.toNat, v30.toNat, c0_i32_13.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x60x160x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x60x160x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x60x160x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S240x240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S480x7680 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S480x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RotateIdeal.lean ====
abbrev S3x640x128x60 : Shape := ⟨4, ![3, 640, 128, 60]⟩
abbrev S240x240 : Shape := ⟨2, ![240, 240]⟩
abbrev S3x60x640x128 : Shape := ⟨4, ![3, 60, 640, 128]⟩
abbrev S1920x7680 : Shape := ⟨2, ![1920, 7680]⟩
abbrev S1920x128 : Shape := ⟨2, ![1920, 128]⟩
abbrev S4x4x128 : Shape := ⟨3, ![4, 4, 128]⟩
abbrev S1x60x160x128 : Shape := ⟨4, ![1, 60, 160, 128]⟩
abbrev S480x7680 : Shape := ⟨2, ![480, 7680]⟩
abbrev S480x128 : Shape := ⟨2, ![480, 128]⟩
abbrev S1x4x128 : Shape := ⟨3, ![1, 4, 128]⟩
abbrev S2x7680x128 : Shape := ⟨3, ![2, 7680, 128]⟩
abbrev S2x7680x2x128 : Shape := ⟨4, ![2, 7680, 2, 128]⟩
abbrev S2x7680x1x128 : Shape := ⟨4, ![2, 7680, 1, 128]⟩
abbrev S2x7680x256 : Shape := ⟨3, ![2, 7680, 256]⟩
abbrev S1x60x80x128 : Shape := ⟨4, ![1, 60, 80, 128]⟩
abbrev S1x1x40x128 : Shape := ⟨4, ![1, 1, 40, 128]⟩
abbrev S1x60x80x2x128 : Shape := ⟨5, ![1, 60, 80, 2, 128]⟩
abbrev S1x1x40x2x128 : Shape := ⟨5, ![1, 1, 40, 2, 128]⟩
abbrev S1x1x40x1x128 : Shape := ⟨5, ![1, 1, 40, 1, 128]⟩
abbrev S40x128 : Shape := ⟨2, ![40, 128]⟩
abbrev S8x128 : Shape := ⟨2, ![8, 128]⟩
abbrev S128x128 : Shape := ⟨2, ![128, 128]⟩
abbrev S256x128 : Shape := ⟨2, ![256, 128]⟩
abbrev S1x128x128 : Shape := ⟨3, ![1, 128, 128]⟩
abbrev S1x128x2x128 : Shape := ⟨4, ![1, 128, 2, 128]⟩
abbrev S1x128x1x128 : Shape := ⟨4, ![1, 128, 1, 128]⟩
abbrev S8x256 : Shape := ⟨2, ![8, 256]⟩
abbrev S1x240x128 : Shape := ⟨3, ![1, 240, 128]⟩
abbrev S1x240x2x128 : Shape := ⟨4, ![1, 240, 2, 128]⟩
abbrev S1x240x1x128 : Shape := ⟨4, ![1, 240, 1, 128]⟩
abbrev S240x128 : Shape := ⟨2, ![240, 128]⟩
abbrev S240x256 : Shape := ⟨2, ![240, 256]⟩
abbrev S1x240x256 : Shape := ⟨3, ![1, 240, 256]⟩
abbrev S30x8x256 : Shape := ⟨3, ![30, 8, 256]⟩
abbrev S256 : Shape := ⟨1, ![256]⟩
abbrev S1x256 : Shape := ⟨2, ![1, 256]⟩
abbrev S1x128 : Shape := ⟨2, ![1, 128]⟩
abbrev S1x1x128 : Shape := ⟨3, ![1, 1, 128]⟩
abbrev S120x128 : Shape := ⟨2, ![120, 128]⟩
abbrev S4x4x120 : Shape := ⟨3, ![4, 4, 120]⟩
abbrev S4x120x4 : Shape := ⟨3, ![4, 120, 4]⟩
abbrev S3x640 : Shape := ⟨2, ![3, 640]⟩
abbrev S3x640x7680 : Shape := ⟨3, ![3, 640, 7680]⟩

abbrev nBuf : Space → Nat
  | .hbm => 10
  | .vmem => 15
  | .smem => 0
  | _ => 0

abbrev bufTy : (tb : Table) → Fin (tcTables nBuf tb) → BufTy
  | .hbm, ⟨0, _⟩ => ⟨S3x640x128x60, .bf16⟩
  | .hbm, ⟨1, _⟩ => ⟨S240x240, .bf16⟩
  | .hbm, ⟨2, _⟩ => ⟨S3x60x640x128, .bf16⟩
  | .hbm, ⟨3, _⟩ => ⟨S1920x7680, .i8⟩
  | .hbm, ⟨4, _⟩ => ⟨S1920x128, .f32⟩
  | .hbm, ⟨5, _⟩ => ⟨S4x4x128, .f32⟩
  | .hbm, ⟨6, _⟩ => ⟨S4x4x120, .f32⟩
  | .hbm, ⟨7, _⟩ => ⟨S4x120x4, .f32⟩
  | .hbm, ⟨8, _⟩ => ⟨S3x640, .f32⟩
  | .hbm, ⟨9, _⟩ => ⟨S3x640x7680, .i8⟩
  | .local _ .vmem, ⟨0, _⟩ => ⟨S1x60x160x128, .bf16⟩
  | .local _ .vmem, ⟨1, _⟩ => ⟨S1x60x160x128, .bf16⟩
  | .local _ .vmem, ⟨2, _⟩ => ⟨S1x60x160x128, .bf16⟩
  | .local _ .vmem, ⟨3, _⟩ => ⟨S1x60x160x128, .bf16⟩
  | .local _ .vmem, ⟨4, _⟩ => ⟨S1x60x160x128, .bf16⟩
  | .local _ .vmem, ⟨5, _⟩ => ⟨S1x60x160x128, .bf16⟩
  | .local _ .vmem, ⟨6, _⟩ => ⟨S240x240, .bf16⟩
  | .local _ .vmem, ⟨7, _⟩ => ⟨S480x7680, .i8⟩
  | .local _ .vmem, ⟨8, _⟩ => ⟨S480x7680, .i8⟩
  | .local _ .vmem, ⟨9, _⟩ => ⟨S480x128, .f32⟩
  | .local _ .vmem, ⟨10, _⟩ => ⟨S480x128, .f32⟩
  | .local _ .vmem, ⟨11, _⟩ => ⟨S1x4x128, .f32⟩
  | .local _ .vmem, ⟨12, _⟩ => ⟨S1x4x128, .f32⟩
  | .local _ .vmem, ⟨13, _⟩ => ⟨S2x7680x2x128, .bf16⟩
  | .local _ .vmem, ⟨14, _⟩ => ⟨S2x7680x256, .f32⟩
  | _, _ => ⟨S3x640x128x60, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c60_i32 : BitVec 32 := 60#32
  let v0 : BitVec 32 := Scalar.addi c0_i32 c60_i32
  let c1_i32 : BitVec 32 := 1#32
  ⟨c0_i32, v0, c1_i32⟩
def k0_off1 (k0_t1 : Fin k0_t1_loop.trips) : Fin 5 → Nat :=
  let c0_33 : Index := 0#32
  let c0_i32 : BitVec 32 := 0#32
  let c1_i32 : BitVec 32 := 1#32
  let arg10 : BitVec 32 := Scf.iv c0_i32 c1_i32 k0_t1
  let v58 : Index := Scalar.indexCast arg10
  let c0_34 : Index := 0#32
  let c0_35 : Index := 0#32
  ![0, v58.toNat, 0, 0, 0]
def k0_off2 (k0_t1 : Fin k0_t1_loop.trips) : Fin 4 → Nat :=
  let c0_43 : Index := 0#32
  let c0_i32 : BitVec 32 := 0#32
  let c1_i32 : BitVec 32 := 1#32
  let arg10 : BitVec 32 := Scf.iv c0_i32 c1_i32 k0_t1
  let v81 : Index := Scalar.indexCast arg10
  let c0_44 : Index := 0#32
  ![0, v81.toNat, 0, 0]
def k0_off3 (k0_t1 : Fin k0_t1_loop.trips) : Fin 5 → Nat :=
  let c0_45 : Index := 0#32
  let c0_i32 : BitVec 32 := 0#32
  let c1_i32 : BitVec 32 := 1#32
  let arg10 : BitVec 32 := Scf.iv c0_i32 c1_i32 k0_t1
  let v86 : Index := Scalar.indexCast arg10
  let c1_46 : Index := 1#32
  let c0_47 : Index := 0#32
  ![0, v86.toNat, 1, 0, 0]
def k0_off4 (k0_t1 : Fin k0_t1_loop.trips) : Fin 4 → Nat :=
  let c1_57 : Index := 1#32
  let c0_i32 : BitVec 32 := 0#32
  let c1_i32 : BitVec 32 := 1#32
  let arg10 : BitVec 32 := Scf.iv c0_i32 c1_i32 k0_t1
  let v109 : Index := Scalar.indexCast arg10
  let c0_58 : Index := 0#32
  ![1, v109.toNat, 0, 0]
@[reducible] def k0_t2_loop : Scf.Loop 32 :=
  let c0_i32_2 : BitVec 32 := 0#32
  let c32_i32 : BitVec 32 := 32#32
  let v2 : BitVec 32 := Scalar.addi c0_i32_2 c32_i32
  let c1_i32_3 : BitVec 32 := 1#32
  ⟨c0_i32_2, v2, c1_i32_3⟩
def k0_off5 (k0_t2 : Fin k0_t2_loop.trips) : Fin 4 → Nat :=
  let c0_33 : Index := 0#32
  let c0_i32_2 : BitVec 32 := 0#32
  let c1_i32_3 : BitVec 32 := 1#32
  let arg10 : BitVec 32 := Scf.iv c0_i32_2 c1_i32_3 k0_t2
  let c240_i32 : BitVec 32 := 240#32
  let v57 : BitVec 32 := Scalar.muli arg10 c240_i32
  let v58 : Index := Scalar.indexCast v57
  let c0_34 : Index := 0#32
  ![0, v58.toNat, 0, 0]
def k0_off6 (k0_t2 : Fin k0_t2_loop.trips) : Fin 3 → Nat :=
  let c0_39 : Index := 0#32
  let c0_i32_2 : BitVec 32 := 0#32
  let c1_i32_3 : BitVec 32 := 1#32
  let arg10 : BitVec 32 := Scf.iv c0_i32_2 c1_i32_3 k0_t2
  let c240_i32_38 : BitVec 32 := 240#32
  let v74 : BitVec 32 := Scalar.muli arg10 c240_i32_38
  let v75 : Index := Scalar.indexCast v74
  let c0_40 : Index := 0#32
  ![0, v75.toNat, 0]
def k0_off7 (k0_t2 : Fin k0_t2_loop.trips) : Fin 4 → Nat :=
  let c1_43 : Index := 1#32
  let c0_i32_2 : BitVec 32 := 0#32
  let c1_i32_3 : BitVec 32 := 1#32
  let arg10 : BitVec 32 := Scf.iv c0_i32_2 c1_i32_3 k0_t2
  let c240_i32_42 : BitVec 32 := 240#32
  let v83 : BitVec 32 := Scalar.muli arg10 c240_i32_42
  let v84 : Index := Scalar.indexCast v83
  let c0_44 : Index := 0#32
  ![1, v84.toNat, 0, 0]
def k0_off8 (k0_t2 : Fin k0_t2_loop.trips) : Fin 3 → Nat :=
  let c1_51 : Index := 1#32
  let c0_i32_2 : BitVec 32 := 0#32
  let c1_i32_3 : BitVec 32 := 1#32
  let arg10 : BitVec 32 := Scf.iv c0_i32_2 c1_i32_3 k0_t2
  let c240_i32_50 : BitVec 32 := 240#32
  let v100 : BitVec 32 := Scalar.muli arg10 c240_i32_50
  let v101 : Index := Scalar.indexCast v100
  let c0_52 : Index := 0#32
  ![1, v101.toNat, 0]
@[reducible] def k0_t3_loop : Scf.Loop 32 :=
  let c0_i32_29 : BitVec 32 := 0#32
  let c60_i32_30 : BitVec 32 := 60#32
  let v56 : BitVec 32 := Scalar.addi c0_i32_29 c60_i32_30
  let c1_i32_31 : BitVec 32 := 1#32
  ⟨c0_i32_29, v56, c1_i32_31⟩
def k0_off9 (k0_t3 : Fin k0_t3_loop.trips) : Fin 3 → Nat :=
  let c0_33 : Index := 0#32
  let c0_i32_29 : BitVec 32 := 0#32
  let c1_i32_31 : BitVec 32 := 1#32
  let arg10 : BitVec 32 := Scf.iv c0_i32_29 c1_i32_31 k0_t3
  let c128_i32 : BitVec 32 := 128#32
  let v57 : BitVec 32 := Scalar.muli arg10 c128_i32
  let v58 : Index := Scalar.indexCast v57
  let c0_34 : Index := 0#32
  ![0, v58.toNat, 0]
def k0_off10 (k0_t3 : Fin k0_t3_loop.trips) : Fin 3 → Nat :=
  let c0_37 : Index := 0#32
  let c0_i32_29 : BitVec 32 := 0#32
  let c1_i32_31 : BitVec 32 := 1#32
  let arg10 : BitVec 32 := Scf.iv c0_i32_29 c1_i32_31 k0_t3
  let c128_i32_36 : BitVec 32 := 128#32
  let v75 : BitVec 32 := Scalar.muli arg10 c128_i32_36
  let v76 : Index := Scalar.indexCast v75
  let c128 : Index := 128#32
  ![0, v76.toNat, 128]
def k0_off11 (k0_t3 : Fin k0_t3_loop.trips) : Fin 3 → Nat :=
  let c1_42 : Index := 1#32
  let c0_i32_29 : BitVec 32 := 0#32
  let c1_i32_31 : BitVec 32 := 1#32
  let arg10 : BitVec 32 := Scf.iv c0_i32_29 c1_i32_31 k0_t3
  let c128_i32_41 : BitVec 32 := 128#32
  let v94 : BitVec 32 := Scalar.muli arg10 c128_i32_41
  let v95 : Index := Scalar.indexCast v94
  let c0_43 : Index := 0#32
  ![1, v95.toNat, 0]
def k0_off12 (k0_t3 : Fin k0_t3_loop.trips) : Fin 3 → Nat :=
  let c1_48 : Index := 1#32
  let c0_i32_29 : BitVec 32 := 0#32
  let c1_i32_31 : BitVec 32 := 1#32
  let arg10 : BitVec 32 := Scf.iv c0_i32_29 c1_i32_31 k0_t3
  let c128_i32_47 : BitVec 32 := 128#32
  let v113 : BitVec 32 := Scalar.muli arg10 c128_i32_47
  let v114 : Index := Scalar.indexCast v113
  let c128_49 : Index := 128#32
  ![1, v114.toNat, 128]
def k0_mult1 (k0_t3 : Fin k0_t3_loop.trips) : BitVec 32 :=
  let c0_i32_29 : BitVec 32 := 0#32
  let c1_i32_31 : BitVec 32 := 1#32
  let arg10 : BitVec 32 := Scf.iv c0_i32_29 c1_i32_31 k0_t3
  let c128_i32_53 : BitVec 32 := 128#32
  let v132 : BitVec 32 := Scalar.muli arg10 c128_i32_53
  v132
def k0_off13 (k0_t3 : Fin k0_t3_loop.trips) : Fin 2 → Nat :=
  let c0_54 : Index := 0#32
  let c0_i32_29 : BitVec 32 := 0#32
  let c1_i32_31 : BitVec 32 := 1#32
  let arg10 : BitVec 32 := Scf.iv c0_i32_29 c1_i32_31 k0_t3
  let c128_i32_53 : BitVec 32 := 128#32
  let v132 : BitVec 32 := Scalar.muli arg10 c128_i32_53
  let v133 : BitVec 32 := v132
  let v137 : Index := Scalar.indexCast v133
  ![0, v137.toNat]
def cc0_transform_0 (i : grid0.Coords) : Fin 4 → Nat :=
  let arg0 : BitVec 32 := BitVec.ofNat 32 (i 0).val
  let c3_i32 : BitVec 32 := 3#32
  let v0 : BitVec 32 := Scalar.muli c3_i32 arg0
  let c0_i32 : BitVec 32 := 0#32
  let v1 : BitVec 32 := Scalar.addi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32_5 : BitVec 32 := 3#32
  let v19 : BitVec 32 := Scalar.muli c3_i32_5 arg0
  let c0_i32_6 : BitVec 32 := 0#32
  let v20 : BitVec 32 := Scalar.addi v19 c0_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  let c0_i32_15 : BitVec 32 := 0#32
  ![v18.toNat, c0_i32_13.toNat, v30.toNat, c0_i32_14.toNat]

def cc0_transform_1 (i : grid0.Coords) : Fin 4 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.addi v0 c1_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c3_i32_5 : BitVec 32 := 3#32
  let v19 : BitVec 32 := Scalar.muli c3_i32_5 arg0
  let c1_i32_6 : BitVec 32 := 1#32
  let v20 : BitVec 32 := Scalar.addi v19 c1_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  let c0_i32_15 : BitVec 32 := 0#32
  ![v18.toNat, c0_i32_13.toNat, v30.toNat, c0_i32_14.toNat]

def cc0_transform_2 (i : grid0.Coords) : Fin 4 → Nat :=
  let arg0 : BitVec 32 := BitVec.ofNat 32 (i 0).val
  let c3_i32 : BitVec 32 := 3#32
  let v0 : BitVec 32 := Scalar.muli c3_i32 arg0
  let c2_i32 : BitVec 32 := 2#32
  let v1 : BitVec 32 := Scalar.addi v0 c2_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c3_i32_4 : BitVec 32 := 3#32
  let v19 : BitVec 32 := Scalar.muli c3_i32_4 arg0
  let c2_i32_5 : BitVec 32 := 2#32
  let v20 : BitVec 32 := Scalar.addi v19 c2_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  let c0_i32_14 : BitVec 32 := 0#32
  ![v18.toNat, c0_i32_12.toNat, v30.toNat, c0_i32_13.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x60x160x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x60x160x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x60x160x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S240x240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S480x7680 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S480x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RotateRefIdeal.lean ====
abbrev S3x640x128x60 : Shape := ⟨4, ![3, 640, 128, 60]⟩
abbrev S60x60 : Shape := ⟨2, ![60, 60]⟩
abbrev S_ : Shape := ⟨0, ![]⟩
abbrev S3x640x7680 : Shape := ⟨3, ![3, 640, 7680]⟩
abbrev S3x640 : Shape := ⟨2, ![3, 640]⟩
abbrev S3x640x1 : Shape := ⟨3, ![3, 640, 1]⟩
abbrev S1920x1 : Shape := ⟨2, ![1920, 1]⟩
abbrev S1920x128 : Shape := ⟨2, ![1920, 128]⟩

abbrev nBuf : Space → Nat
  | .hbm => 36
  | .vmem => 0
  | .smem => 0
  | _ => 0

abbrev bufTy : (tb : Table) → Fin (tcTables nBuf tb) → BufTy
  | .hbm, ⟨0, _⟩ => ⟨S3x640x128x60, .bf16⟩
  | .hbm, ⟨1, _⟩ => ⟨S60x60, .f32⟩
  | .hbm, ⟨2, _⟩ => ⟨S3x640x128x60, .f32⟩
  | .hbm, ⟨3, _⟩ => ⟨S3x640x128x60, .f32⟩
  | .hbm, ⟨4, _⟩ => ⟨S_, .f32⟩
  | .hbm, ⟨5, _⟩ => ⟨S3x640x128x60, .f32⟩
  | .hbm, ⟨6, _⟩ => ⟨S3x640x128x60, .f32⟩
  | .hbm, ⟨7, _⟩ => ⟨S3x640x7680, .f32⟩
  | .hbm, ⟨8, _⟩ => ⟨S3x640x7680, .f32⟩
  | .hbm, ⟨9, _⟩ => ⟨S_, .f32⟩
  | .hbm, ⟨10, _⟩ => ⟨S3x640, .f32⟩
  | .hbm, ⟨11, _⟩ => ⟨S_, .f32⟩
  | .hbm, ⟨12, _⟩ => ⟨S3x640, .f32⟩
  | .hbm, ⟨13, _⟩ => ⟨S3x640, .i1⟩
  | .hbm, ⟨14, _⟩ => ⟨S_, .f32⟩
  | .hbm, ⟨15, _⟩ => ⟨S3x640, .f32⟩
  | .hbm, ⟨16, _⟩ => ⟨S3x640, .f32⟩
  | .hbm, ⟨17, _⟩ => ⟨S_, .f32⟩
  | .hbm, ⟨18, _⟩ => ⟨S3x640, .f32⟩
  | .hbm, ⟨19, _⟩ => ⟨S3x640, .f32⟩
  | .hbm, ⟨20, _⟩ => ⟨S3x640x1, .f32⟩
  | .hbm, ⟨21, _⟩ => ⟨S3x640x7680, .f32⟩
  | .hbm, ⟨22, _⟩ => ⟨S3x640x7680, .f32⟩
  | .hbm, ⟨23, _⟩ => ⟨S3x640x7680, .f32⟩
  | .hbm, ⟨24, _⟩ => ⟨S_, .i32⟩
  | .hbm, ⟨25, _⟩ => ⟨S_, .i32⟩
  | .hbm, ⟨26, _⟩ => ⟨S_, .f32⟩
  | .hbm, ⟨27, _⟩ => ⟨S3x640x7680, .f32⟩
  | .hbm, ⟨28, _⟩ => ⟨S3x640x7680, .f32⟩
  | .hbm, ⟨29, _⟩ => ⟨S_, .f32⟩
  | .hbm, ⟨30, _⟩ => ⟨S3x640x7680, .f32⟩
  | .hbm, ⟨31, _⟩ => ⟨S3x640x7680, .f32⟩
  | .hbm, ⟨32, _⟩ => ⟨S3x640x7680, .i32⟩
  | .hbm, ⟨33, _⟩ => ⟨S3x640x7680, .i8⟩
  | .hbm, ⟨34, _⟩ => ⟨S1920x1, .f32⟩
  | .hbm, ⟨35, _⟩ => ⟨S1920x128, .f32⟩
  | _, _ => ⟨S3x640x128x60, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_cst_4 : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_c_5 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Proof.ProjectBlock.lean ====
/-
  What one grid point of the projection leaves in its output block, and what the first point leaves in the scratch it
  carries: the codes as reals.
-/
module

public import proofs.«01_k».proof.Defs
public import proofs.«01_k».proof.Proof.Gen.ProjectIdeal.Value
public import Idealize.ShloMosaic.Lib.Pipeline.Value
public import Idealize.ShloMosaic.Lib.Pipeline.ValueKit
public import Idealize.ShloMosaic.Lib.Pipeline.ReadBack
public import Idealize.ShloMosaic.Lib.Pipeline.CanonAppend

@[expose] public section

set_option maxRecDepth 16384

noncomputable section

namespace Cert.ProjectIdeal.Block

open Idealize.ShloMosaic Idealize.ShloMosaic.TcCoe Idealize.SL.Sem
open Cert.ProjectIdeal Cert.ProjectIdeal.Gen

variable {F : FTy → Type} [FloatOps F]

/-- The codes converted to bf16, element by element: what the loop of the first point leaves in the scratch. -/
abbrev conv (x0 : Vec F S1920x7680 .i8) : Vec F S1920x7680 .bf16 := fun i => FloatOps.sitofp .bf16 (x0 i)

/-- Each trip's one store agrees with `conv`. -/
theorem trip_pieces (𝒱 : Variants) (c : Dev nD) (bd : Option 𝒱.V) (i : grid0.Coords) (arg1 : Memref sig .tc .vmem S1920x7680 .i8) (harg1 : arg1.IsWhole) (arg2 : Memref sig .tc .vmem S256x3840 .i8) (harg2 : arg2.IsWhole) (arg3 : Memref sig .tc .vmem S1920x128 .f32) (harg3 : arg3.IsWhole) (arg4 : Memref sig .tc .vmem S1x256 .f32) (harg4 : arg4.IsWhole) (arg5 : Memref sig .tc .vmem S1920x256 .bf16) (harg5 : arg5.IsWhole) (arg6 : Memref sig .tc .vmem S1920x7680 .bf16) (harg6 : arg6.IsWhole) (arg7 : Memref sig .tc .vmem S256x7680 .bf16) (harg7 : arg7.IsWhole) (k0_h1 : k0_cond1 i = 1#1)
    (x0 : Vec F S1920x7680 .i8) (k : Fin k0_t1_loop.trips) :
    ∀ p ∈ tripL_k0_t1 (F := F) 𝒱 c bd i arg1 harg1 arg2 harg2 arg3 harg3 arg4 harg4 arg5 harg5 arg6 harg6 arg7 harg7 k0_h1 (harg1.unread x0) k,
      ∀ x : p.1.shape.Idx, p.2 x = conv x0 (p.1.emb x) := by
  unfold tripL_k0_t1 trip_k0_t1
  dsimp only
  intro p hp x
  rw [List.mem_singleton] at hp
  subst hp
  sl_unfold_words
  unfold k0_pay2
  simp only [View.readAt_eq_ld, harg1.read_unread, shapeCast_self]
  rfl

/-- So do all the pieces of the trips before `n`. -/
theorem pb_pieces (𝒱 : Variants) (c : Dev nD) (bd : Option 𝒱.V) (i : grid0.Coords) (arg1 : Memref sig .tc .vmem S1920x7680 .i8) (harg1 : arg1.IsWhole) (arg2 : Memref sig .tc .vmem S256x3840 .i8) (harg2 : arg2.IsWhole) (arg3 : Memref sig .tc .vmem S1920x128 .f32) (harg3 : arg3.IsWhole) (arg4 : Memref sig .tc .vmem S1x256 .f32) (harg4 : arg4.IsWhole) (arg5 : Memref sig .tc .vmem S1920x256 .bf16) (harg5 : arg5.IsWhole) (arg6 : Memref sig .tc .vmem S1920x7680 .bf16) (harg6 : arg6.IsWhole) (arg7 : Memref sig .tc .vmem S256x7680 .bf16) (harg7 : arg7.IsWhole) (k0_h1 : k0_cond1 i = 1#1)
    (x0 : Vec F S1920x7680 .i8) : ∀ n : ℕ,
    ∀ p ∈ pb_k0_t1 (F := F) 𝒱 c bd i arg1 harg1 arg2 harg2 arg3 harg3 arg4 harg4 arg5 harg5 arg6 harg6 arg7 harg7 k0_h1 (harg1.unread x0) n,
      ∀ x : p.1.shape.Idx, p.2 x = conv x0 (p.1.emb x)
  | 0 => fun p hp => by rw [pb_k0_t1.eq_1] at hp; exact absurd hp List.not_mem_nil
  | n + 1 => fun p hp => by
    rw [pb_k0_t1.eq_2] at hp
    unfold pb_k0_t1Step at hp
    split at hp
    · rcases List.mem_append.mp hp with h | h
      · exact trip_pieces 𝒱 c bd i arg1 harg1 arg2 harg2 arg3 harg3 arg4 harg4 arg5 harg5 arg6 harg6 arg7 harg7 k0_h1 x0 _ p h
      · exact pb_pieces 𝒱 c bd i arg1 harg1 arg2 harg2 arg3 harg3 arg4 harg4 arg5 harg5 arg6 harg6 arg7 harg7 k0_h1 x0 n p h
    · exact pb_pieces 𝒱 c bd i arg1 harg1 arg2 harg2 arg3 harg3 arg4 harg4 arg5 harg5 arg6 harg6 arg7 harg7 k0_h1 x0 n p hp

/-- The canonical contents the whole loop leaves: the converted codes. -/
theorem canon_pb (𝒱 : Variants) (c : Dev nD) (bd : Option 𝒱.V) (i : grid0.Coords) (arg1 : Memref sig .tc .vmem S1920x7680 .i8) (harg1 : arg1.IsWhole) (arg2 : Memref sig .tc .vmem S256x3840 .i8) (harg2 : arg2.IsWhole) (arg3 : Memref sig .tc .vmem S1920x128 .f32) (harg3 : arg3.IsWhole) (arg4 : Memref sig .tc .vmem S1x256 .f32) (harg4 : arg4.IsWhole) (arg5 : Memref sig .tc .vmem S1920x256 .bf16) (harg5 : arg5.IsWhole) (arg6 : Memref sig .tc .vmem S1920x7680 .bf16) (harg6 : arg6.IsWhole) (arg7 : Memref sig .tc .vmem S256x7680 .bf16) (harg7 : arg7.IsWhole) (k0_h1 : k0_cond1 i = 1#1)
    (x0 : Vec F S1920x7680 .i8) :
    View.canon (pb_k0_t1 (F := F) 𝒱 c bd i arg1 harg1 arg2 harg2 arg3 harg3 arg4 harg4 arg5 harg5 arg6 harg6 arg7 harg7 k0_h1 (harg1.unread x0) (Scf.trips k0_t1_loop.lb k0_t1_loop.ub k0_t1_loop.st))
      = conv x0 := by
  funext y
  have h := View.canon_append_of_pieces (conv x0) [] _
    (pb_pieces 𝒱 c bd i arg1 harg1 arg2 harg2 arg3 harg3 arg4 harg4 arg5 harg5 arg6 harg6 arg7 harg7 k0_h1 x0 (Scf.trips k0_t1_loop.lb k0_t1_loop.ub k0_t1_loop.st)) y
    (View.cover_of_tiledL (pb_k0_t1 (F := F) 𝒱 c bd i arg1 harg1 arg2 harg2 arg3 harg3 arg4 harg4 arg5 harg5 arg6 harg6 arg7 harg7 k0_h1 (harg1.unread x0) (Scf.trips k0_t1_loop.lb k0_t1_loop.ub k0_t1_loop.st)) S32x7680.size (by sl_kernel_rfl) y)
  rwa [List.append_nil] at h

/-- CASE A's scratch: the converted codes. -/
theorem sout_A (c : Dev nD) (i : grid0.Coords) (arg1 : Memref sig .tc .vmem S1920x7680 .i8) (harg1 : arg1.IsWhole) (arg2 : Memref sig .tc .vmem S256x3840 .i8) (harg2 : arg2.IsWhole) (arg3 : Memref sig .tc .vmem S1920x128 .f32) (harg3 : arg3.IsWhole) (arg4 : Memref sig .tc .vmem S1x256 .f32) (harg4 : arg4.IsWhole) (arg5 : Memref sig .tc .vmem S1920x256 .bf16) (harg5 : arg5.IsWhole) (arg6 : Memref sig .tc .vmem S1920x7680 .bf16) (harg6 : arg6.IsWhole) (arg7 : Memref sig .tc .vmem S256x7680 .bf16) (harg7 : arg7.IsWhole) (hc0 : cond0_0 i)
    (x0 : Vec F S1920x7680 .i8) (x1 : Vec F S256x3840 .i8) (x2 : Vec F S1920x128 .f32) (x3 : Vec F S1x256 .f32) :
    sout0_A_0 c i arg1 harg1 arg2 harg2 arg3 harg3 arg4 harg4 arg5 harg5 arg6 harg6 arg7 harg7 hc0 x0 x1 x2 x3 = conv x0 := by
  unfold sout0_A_0
  rw [View.read_writes_junk_eq_canon]
  unfold kernelRun0_A
  dsimp only
  sl_unfold_words
  exact canon_pb ..

theorem hz : (![0, 0] : Fin 2 → Nat) = fun _ => 0 := funext fun a => by fin_cases a <;> rfl

/-- A covered load read back through a rectangle is that rectangle of the stores' canonical contents. -/
theorem readCov_ld {S : Shape} {e : EltTy} (v : View sig .tc .vmem S e) (L : List (View.Piece (Elt F) S e)) (r : Rect S) :
    v.readCov L r.toLoadRect = View.ld (View.canon L) r := View.readCov_eq_canon' v L r.toLoadRect

/-- The decoded weight block: the low nibbles (scaled by 16) in the left half, the high ones in the right half. -/
def dec (x1 : Vec F S256x3840 .i8) : Vec F S256x7680 .bf16 :=
  View.canon [⟨Rect.unit (s := S256x7680) ![0, 3840] S256x3840.size inb_S256x7680_S256x3840_0_3840, k0_pay5 x1⟩,
    ⟨Rect.unit (s := S256x7680) ![0, 0] S256x3840.size inb_S256x7680_S256x3840_0_0, k0_pay4 x1⟩]

/-- The output block over the converted codes, the packed weights and the two scales: four row blocks. -/
def block (xb : Vec F S1920x7680 .bf16) (x1 : Vec F S256x3840 .i8) (x2 : Vec F S1920x128 .f32) (x3 : Vec F S1x256 .f32) :
    Vec F S1920x256 .bf16 :=
  View.canon [⟨Rect.unit (s := S1920x256) ![1440, 0] S480x256.size inb_S1920x256_S480x256_1440_0,
      k0_pay1 (View.ld xb (Rect.unit (s := S1920x7680) ![1440, 0] S480x7680.size inb_S1920x7680_S480x7680_1440_0)) (dec x1)
        (View.ld x2 (Rect.unit (s := S1920x128) ![1440, 0] S480x128.size inb_S1920x128_S480x128_1440_0)) x3⟩,
    ⟨Rect.unit (s := S1920x256) ![960, 0] S480x256.size inb_S1920x256_S480x256_960_0,
      k0_pay8 (View.ld xb (Rect.unit (s := S1920x7680) ![960, 0] S480x7680.size inb_S1920x7680_S480x7680_960_0)) (dec x1)
        (View.ld x2 (Rect.unit (s := S1920x128) ![960, 0] S480x128.size inb_S1920x128_S480x128_960_0)) x3⟩,
    ⟨Rect.unit (s := S1920x256) ![480, 0] S480x256.size inb_S1920x256_S480x256_480_0,
      k0_pay7 (View.ld xb (Rect.unit (s := S1920x7680) ![480, 0] S480x7680.size inb_S1920x7680_S480x7680_480_0)) (dec x1)
        (View.ld x2 (Rect.unit (s := S1920x128) ![480, 0] S480x128.size inb_S1920x128_S480x128_480_0)) x3⟩,
    ⟨Rect.unit (s := S1920x256) ![0, 0] S480x256.size inb_S1920x256_S480x256_0_0,
      k0_pay6 (View.ld xb (Rect.unit (s := S1920x7680) ![0, 0] S480x7680.size inb_S1920x7680_S480x7680_0_0)) (dec x1)
        (View.ld x2 (Rect.unit (s := S1920x128) ![0, 0] S480x128.size inb_S1920x128_S480x128_0_0)) x3⟩]

/-- CASE B's block: over the codes carried in the scratch. -/
theorem out_B (c : Dev nD) (i : grid0.Coords) (arg1 : Memref sig .tc .vmem S1920x7680 .i8) (harg1 : arg1.IsWhole) (arg2 : Memref sig .tc .vmem S256x3840 .i8) (harg2 : arg2.IsWhole) (arg3 : Memref sig .tc .vmem S1920x128 .f32) (harg3 : arg3.IsWhole) (arg4 : Memref sig .tc .vmem S1x256 .f32) (harg4 : arg4.IsWhole) (arg5 : Memref sig .tc .vmem S1920x256 .bf16) (harg5 : arg5.IsWhole) (arg6 : Memref sig .tc .vmem S1920x7680 .bf16) (harg6 : arg6.IsWhole) (arg7 : Memref sig .tc .vmem S256x7680 .bf16) (harg7 : arg7.IsWhole) (hc0 : ¬cond0_0 i)
    (x0 : Vec F S1920x7680 .i8) (x1 : Vec F S256x3840 .i8) (x2 : Vec F S1920x128 .f32) (x3 : Vec F S1x256 .f32) (xs0 : Vec F S1920x7680 .bf16) :
    out0_B_4 c i arg1 harg1 arg2 harg2 arg3 harg3 arg4 harg4 arg5 harg5 arg6 harg6 arg7 harg7 hc0 x0 x1 x2 x3 xs0 = block xs0 x1 x2 x3 := by
  unfold out0_B_4
  rw [View.read_writes_junk_eq_canon]
  unfold kernelRun0_B
  dsimp only
  sl_unfold_words
  simp only [View.readAt_eq_ld, harg1.read_unread, harg2.read_unread, harg3.read_unread, harg4.read_unread, harg6.read_unread,
    readCov_ld, View.ld_unit_zero (S := S256x7680) hz, View.ld_unit_zero (S := S256x3840) hz, View.ld_unit_zero (S := S1x256) hz]
  unfold block dec
  rfl

/-- CASE A's block: over the codes the loop has just converted. -/
theorem out_A (c : Dev nD) (i : grid0.Coords) (arg1 : Memref sig .tc .vmem S1920x7680 .i8) (harg1 : arg1.IsWhole) (arg2 : Memref sig .tc .vmem S256x3840 .i8) (harg2 : arg2.IsWhole) (arg3 : Memref sig .tc .vmem S1920x128 .f32) (harg3 : arg3.IsWhole) (arg4 : Memref sig .tc .vmem S1x256 .f32) (harg4 : arg4.IsWhole) (arg5 : Memref sig .tc .vmem S1920x256 .bf16) (harg5 : arg5.IsWhole) (arg6 : Memref sig .tc .vmem S1920x7680 .bf16) (harg6 : arg6.IsWhole) (arg7 : Memref sig .tc .vmem S256x7680 .bf16) (harg7 : arg7.IsWhole) (hc0 : cond0_0 i)
    (x0 : Vec F S1920x7680 .i8) (x1 : Vec F S256x3840 .i8) (x2 : Vec F S1920x128 .f32) (x3 : Vec F S1x256 .f32) :
    out0_A_4 c i arg1 harg1 arg2 harg2 arg3 harg3 arg4 harg4 arg5 harg5 arg6 harg6 arg7 harg7 hc0 x0 x1 x2 x3 = block (conv x0) x1 x2 x3 := by
  have e : View.canon (pb_k0_t1 (F := F) Variants.none c none i arg1 harg1 arg2 harg2 arg3 harg3 arg4 harg4 arg5 harg5 arg6 harg6 arg7 harg7 hc0 (harg1.unread x0) (Scf.trips (0#32) (Scalar.addi 0#32 60#32) 1#32)) = conv x0 :=
    canon_pb ..
  unfold out0_A_4
  rw [View.read_writes_junk_eq_canon]
  unfold kernelRun0_A
  dsimp only
  sl_unfold_words
  simp only [View.readAt_eq_ld, harg1.read_unread, harg2.read_unread, harg3.read_unread, harg4.read_unread,
    readCov_ld, View.ld_unit_zero (S := S256x7680) hz, View.ld_unit_zero (S := S256x3840) hz, View.ld_unit_zero (S := S1x256) hz, e]
  unfold block dec
  rfl

end Cert.ProjectIdeal.Block

end
-- ==== Proof.ProjectValue.lean ====
/-
  The projection's output block read at an index over the extended reals.
-/
module

public import proofs.«01_k».proof.Proof.ProjectBlock
public import Idealize.ShloMosaic.Lib.Pointwise
public import Idealize.ShloMosaic.Lib.BitcastFour

@[expose] public section

set_option maxRecDepth 16384

noncomputable section

namespace Cert.ProjectIdeal.Block

open Idealize.ShloMosaic Idealize.ShloMosaic.TcCoe Idealize.SL.Sem
open Cert.ProjectIdeal Cert.ProjectIdeal.Gen

/-- The sum of products of one output element: row `a` of the converted codes against row `b` of the decoded weights,
    times one sixteenth, times the row's scale and the channel's scale. -/
def elem (xb : Vec Ideal S1920x7680 .bf16) (w : Vec Ideal S256x7680 .bf16) (x2 : Vec Ideal S1920x128 .f32) (x3 : Vec Ideal S1x256 .f32)
    (a : Fin 1920) (b : Fin 256) : EReal :=
  (∑ k : Fin 7680, xb (ix2 a k) * w (ix2 b k)) * Ideal.ofBits FTy.f32 1031798784#32 * x2 (ix2 a ⟨b.val % 128, Nat.mod_lt _ (by decide)⟩)
    * x3 (ix2 0 b)

/-- One row block of a product at an index. -/
theorem pay_apply (a : Vec Ideal S480x7680 .bf16) (w : Vec Ideal S256x7680 .bf16) (s : Vec Ideal S480x128 .f32)
    (r : Vec Ideal S1x256 .f32) (y0 : Fin 480) (y1 : Fin 256) :
    k0_pay6 (F := Ideal) a w s r (ix2 y0 y1) = (∑ k : Fin 7680, a (ix2 y0 k) * w (ix2 y1 k)) * Ideal.ofBits FTy.f32 1031798784#32
      * s (ix2 y0 ⟨y1.val % 128, Nat.mod_lt _ (by decide)⟩) * r (ix2 0 y1) := by
  have hb := y1.isLt
  pointwise [k0_pay6]
  congr 2
  split
  · congr 2; apply Fin.ext; show y1.val = y1.val % 128; omega
  · congr 2; apply Fin.ext; show y1.val - 128 = y1.val % 128; omega

theorem pay1_eq : k0_pay1 (F := Ideal) = k0_pay6 (F := Ideal) := rfl
theorem pay7_eq : k0_pay7 (F := Ideal) = k0_pay6 (F := Ideal) := rfl
theorem pay8_eq : k0_pay8 (F := Ideal) = k0_pay6 (F := Ideal) := rfl

/-- A row block of the product at an index, by its rows in the whole arrays. -/
theorem pay_ld_apply (off : Nat) (inb : ∀ d : Fin 2, (![off, 0] : Fin 2 → Nat) d + S480x7680.size d ≤ S1920x7680.size d)
    (inb' : ∀ d : Fin 2, (![off, 0] : Fin 2 → Nat) d + S480x128.size d ≤ S1920x128.size d)
    (xb : Vec Ideal S1920x7680 .bf16) (w : Vec Ideal S256x7680 .bf16) (x2 : Vec Ideal S1920x128 .f32)
    (r : Vec Ideal S1x256 .f32) (y0 : Fin 480) (b : Fin 256) (a : Fin 1920) (ha : a.val = off + y0.val) :
    k0_pay6 (F := Ideal) (View.ld xb (Rect.unit (s := S1920x7680) ![off, 0] S480x7680.size inb)) w
      (View.ld x2 (Rect.unit (s := S1920x128) ![off, 0] S480x128.size inb')) r (ix2 y0 b) = elem xb w x2 r a b := by
  have e1 : ∀ k : Fin 7680, View.ld xb (Rect.unit (s := S1920x7680) ![off, 0] S480x7680.size inb) (ix2 y0 k) = xb (ix2 a k) := fun k =>
    congrArg xb (funext fun d => Fin.ext (by
      match d with
      | ⟨0, _⟩ => show off + 1 * y0.val = a.val; omega
      | ⟨1, _⟩ => show 0 + 1 * k.val = k.val; omega))
  have e2 : ∀ k : Fin 128, View.ld x2 (Rect.unit (s := S1920x128) ![off, 0] S480x128.size inb') (ix2 y0 k) = x2 (ix2 a k) := fun k =>
    congrArg x2 (funext fun d => Fin.ext (by
      match d with
      | ⟨0, _⟩ => show off + 1 * y0.val = a.val; omega
      | ⟨1, _⟩ => show 0 + 1 * k.val = k.val; omega))
  refine (pay_apply _ _ _ _ _ _).trans ?_
  unfold elem
  rw [e2]
  congr 3
  exact Finset.sum_congr rfl fun k _ => by rw [e1]

/-- The output block at an index. -/
theorem block_apply (xb : Vec Ideal S1920x7680 .bf16) (wc : Vec Ideal S256x3840 .i8) (s : Vec Ideal S1920x128 .f32) (r : Vec Ideal S1x256 .f32)
    (a : Fin 1920) (b : Fin 256) : block xb wc s r (ix2 a b) = elem xb (dec wc) s r a b := by
  unfold block
  generalize dec wc = w
  rw [pay1_eq, pay7_eq, pay8_eq]
  canon_tiles x h
  all_goals
    idx_vars x
    obtain rfl : b = x1 := Fin.ext h1
    exact pay_ld_apply _ _ _ xb w s r _ _ a (by omega)

/-- A byte of an array of words: bit `i` of the byte in row `p` is bit `8 (p mod 4) + i` of the word in row `p / 4`. -/
theorem byte_bit (y : S64x3840.Idx → BitVec 32) (p : Fin 256) (l : Fin 3840) (i : Nat) (hi : i < 8) :
    (bitcast S256x3840 8 y bitcasts_S64x3840_w32_S256x3840_w8 (ix2 p l)).getLsbD i
      = (y (ix2 ⟨p.val / 4, by omega⟩ l)).getLsbD (8 * (p.val % 4) + i) := by
  rw [bitcast_getLsbD _ _ _ _ hi (by decide)]
  have hrow : S256x3840.row (ix2 p l) = p.val := rfl
  have e : (S256x3840.row (ix2 p l) * 8 + i) % 32 = 8 * (p.val % 4) + i := by rw [hrow]; omega
  rw [e]
  congr 2
  funext c
  match c with
  | ⟨0, _⟩ => exact Fin.ext ((Shape.Bitcasts.srcIdx_row _ _ _ _ ⟨0, Nat.zero_lt_two⟩ rfl).trans (by rw [hrow]; show (p.val * 8 + i) / 32 = p.val / 4; omega))
  | ⟨1, _⟩ => exact Fin.ext (Shape.Bitcasts.srcIdx_other _ _ _ _ ⟨1, Nat.one_lt_two⟩ (by show ¬ 1 + 2 = 2; omega))

/-- Bit `8 (p mod 4) + i` of the word in row `p / 4` is bit `i` of the byte in row `p`. -/
theorem word_bit (x : S256x3840.Idx → BitVec 8) (p : Fin 256) (l : Fin 3840) (i : Nat) (hi : i < 8) :
    (bitcast S64x3840 32 x bitcasts_S256x3840_w8_S64x3840_w32 (ix2 ⟨p.val / 4, by omega⟩ l)).getLsbD (8 * (p.val % 4) + i)
      = (x (ix2 p l)).getLsbD i := by
  rw [ix2_eq_valueIdx, ix2_eq_valueIdx]
  refine (bitcast_8_32_getLsbD_ix2 x bitcasts_S256x3840_w8_S64x3840_w32 _ l _ (by omega) p (by show p.val = 4 * (p.val / 4) + _; omega)).trans ?_
  congr 1; omega

/-- The mask of the high nibbles. -/
theorem mask_bit : ∀ q < 32, (4042322160#32).getLsbD q = decide (4 ≤ q % 8) := by decide

/-- A byte of the words shifted left by four and masked: the byte shifted left by four. -/
theorem lo_byte (x1 : S256x3840.Idx → BitVec 8) (p : Fin 256) (l : Fin 3840) :
    bitcast S256x3840 8 (andi (shli (bitcast S64x3840 32 x1 bitcasts_S256x3840_w8_S64x3840_w32) (broadcast S64x3840 4#32))
      (broadcast S64x3840 4042322160#32)) bitcasts_S64x3840_w32_S256x3840_w8 (ix2 p l) = x1 (ix2 p l) <<< 4 := by
  have hp := p.isLt
  apply BitVec.eq_of_getLsbD_eq
  intro i hi
  rw [byte_bit _ _ _ _ hi]
  show (((bitcast S64x3840 32 x1 bitcasts_S256x3840_w8_S64x3840_w32 (ix2 ⟨p.val / 4, _⟩ l)) <<< 4) &&& 4042322160#32).getLsbD _ = _
  rw [BitVec.getLsbD_and, BitVec.getLsbD_shiftLeft, BitVec.getLsbD_shiftLeft, mask_bit _ (by omega)]
  have hq : (8 * (p.val % 4) + i) % 8 = i := by omega
  rw [hq]
  by_cases h4 : 4 ≤ i
  · have e : 8 * (p.val % 4) + i - 4 = 8 * (p.val % 4) + (i - 4) := by omega
    rw [e, word_bit _ _ _ _ (by omega)]
    have : ¬ 8 * (p.val % 4) + i < 4 := by omega
    have : 8 * (p.val % 4) + i < 32 := by omega
    have : ¬ i < 4 := by omega
    simp [*]
  · have : i < 4 := by omega
    simp [*]

/-- A byte of the masked words: the byte with its low nibble cleared. -/
theorem hi_byte (x1 : S256x3840.Idx → BitVec 8) (p : Fin 256) (l : Fin 3840) :
    bitcast S256x3840 8 (andi (bitcast S64x3840 32 x1 bitcasts_S256x3840_w8_S64x3840_w32)
      (broadcast S64x3840 4042322160#32)) bitcasts_S64x3840_w32_S256x3840_w8 (ix2 p l) = x1 (ix2 p l) &&& 240#8 := by
  have hp := p.isLt
  have hm : ∀ q < 8, (240#8).getLsbD q = decide (4 ≤ q) := by decide
  apply BitVec.eq_of_getLsbD_eq
  intro i hi
  rw [byte_bit _ _ _ _ hi]
  show ((bitcast S64x3840 32 x1 bitcasts_S256x3840_w8_S64x3840_w32 (ix2 ⟨p.val / 4, _⟩ l)) &&& 4042322160#32).getLsbD _ = _
  rw [BitVec.getLsbD_and, BitVec.getLsbD_and, mask_bit _ (by omega), word_bit _ _ _ _ hi, hm _ hi]
  have hq : (8 * (p.val % 4) + i) % 8 = i := by omega
  rw [hq]

theorem pay4_apply (x1 : Vec Ideal S256x3840 .i8) (y0 : Fin 256) (y1 : Fin 3840) :
    k0_pay4 (F := Ideal) x1 (ix2 y0 y1) = (((x1 (ix2 y0 y1) <<< 4).toInt : ℝ) : EReal) := by
  pointwise [k0_pay4, k0_pay3]
  rw [lo_byte]
  rfl

theorem pay5_apply (x1 : Vec Ideal S256x3840 .i8) (y0 : Fin 256) (y1 : Fin 3840) :
    k0_pay5 (F := Ideal) x1 (ix2 y0 y1) = ((((x1 (ix2 y0 y1) : BitVec 8) &&& 240#8).toInt : ℝ) : EReal) := by
  pointwise [k0_pay5, k0_pay3]
  rw [hi_byte]
  rfl

/-- The decoded weight of channel `a` at position `k`, sixteen times the signed nibble: the low nibbles first, then the high ones. -/
def wt (x1 : S256x3840.Idx → BitVec 8) (a : Fin 256) (k : Fin 7680) : ℤ :=
  if h : k.val < 3840 then (x1 (ix2 a ⟨k.val, h⟩) <<< 4).toInt else (x1 (ix2 a ⟨k.val - 3840, by omega⟩) &&& 240#8).toInt

/-- The decoded weights at an index. -/
theorem dec_apply (x1 : Vec Ideal S256x3840 .i8) (a : Fin 256) (k : Fin 7680) :
    dec (F := Ideal) x1 (ix2 a k) = ((wt x1 a k : ℝ) : EReal) := by
  unfold dec
  canon_tiles x h
  all_goals
    idx_vars x
    first | rw [pay4_apply] | rw [pay5_apply]
    unfold wt
    simp at h0 h1
    obtain rfl := Fin.ext h0
  · rw [dif_neg (by omega)]
    congr 6; apply Fin.ext; show _ = k.val - 3840; omega
  · rw [dif_pos (by omega)]
    congr 6; apply Fin.ext; exact h1.symm

end Cert.ProjectIdeal.Block

end
-- ==== Proof.ProjectResult.lean ====
/-
  The whole result of the projection at an index: the codes that the first point puts into the scratch reach every later
  point unchanged, so each block is the same function of its arguments.
-/
module

public import proofs.«01_k».proof.Proof.ProjectValue

@[expose] public section

set_option maxRecDepth 16384

noncomputable section

namespace Cert.ProjectIdeal.Block

open Idealize.ShloMosaic Idealize.ShloMosaic.TcCoe Idealize.SL.Sem
open Cert.ProjectIdeal Cert.ProjectIdeal.Gen

variable (m : (ℓ : Loc nD τ sig) → Buf (Elt Ideal) ℓ) (c : Dev nD)

theorem idx0 : ∀ t, win0_0.index t = ![0, 0] := by decide +kernel
theorem idx1 : ∀ t, win0_1.index t = ![t.val, 0] := by decide +kernel
theorem idx2 : ∀ t, win0_2.index t = ![0, 0] := by decide +kernel
theorem idx3 : ∀ t, win0_3.index t = ![0, t.val] := by decide +kernel

/-- The codes, the scales and the weights as launched. -/
abbrev codes : Vec Ideal S1920x7680 .i8 := m ((c : Thread nD τ).loc main_arg0)
abbrev scales : Vec Ideal S1920 .f32 := m ((c : Thread nD τ).loc main_arg1)
abbrev weights : Vec Ideal S7680x3840 .i8 := m ((c : Thread nD τ).loc main_arg2)
abbrev wscales : Vec Ideal S7680 .f32 := m ((c : Thread nD τ).loc main_arg3)

/-- Every point's block of the codes is the whole array. -/
theorem iblk0_eq (t : Fin cfg0.N) : iblk m c 0 t = codes m c := by
  funext x
  idx_vars x
  blk_ext [iblk, V, idx0 t]

theorem iblk1_apply (t : Fin cfg0.N) (y0 : Fin 256) (y1 : Fin 3840) (b : Fin 7680) (hb : b.val = 256 * t.val + y0.val) :
    iblk m c 1 t (ix2 y0 y1) = weights m c (ix2 b y1) := by
  blk_ext [iblk, V, idx1 t]

theorem iblk2_apply (t : Fin cfg0.N) (y0 : Fin 1920) (y1 : Fin 128) :
    iblk m c 2 t (ix2 y0 y1) = scales m c (ix1 y0) := by
  have e : ((cfg0.win 2).blk t).view.emb (ix2 y0 y1) = ix2 y0 y1 := by blk_ext [idx2 t]
  refine (congrArg (V m c main_v1) e).trans ?_
  entry_read
  pointwise

theorem iblk3_apply (t : Fin cfg0.N) (y1 : Fin 256) (b : Fin 7680) (hb : b.val = 256 * t.val + y1.val) :
    iblk m c 3 t (ix2 0 y1) = wscales m c (ix1 b) := by
  have e : ((cfg0.win 3).blk t).view.emb (ix2 0 y1) = ix2 0 b := by blk_ext [idx3 t]
  refine (congrArg (V m c main_v2) e).trans ?_
  entry_read
  pointwise

/-- After every point, the scratch holds the codes converted, and the output block is `block` of them. -/
theorem outs_eq : ∀ (n : ℕ) (hn : n < cfg0.N), outsAt0 m c n hn
    = (block (conv (codes m c)) (iblk m c 1 ⟨n, hn⟩) (iblk m c 2 ⟨n, hn⟩) (iblk m c 3 ⟨n, hn⟩), conv (codes m c))
  | 0, hn => by
    refine (outsAt0_A m c ⟨0, hn⟩ rfl).trans ?_
    rw [out_A, sout_A, iblk0_eq]
  | n + 1, hn => by
    have hN : n + 1 < 30 := lt_of_lt_of_eq hn N_0
    refine (outsAt0_B m c ⟨n + 1, hn⟩ (by show ¬ (n + 1) % 30 = 0; omega)).trans ?_
    have ih := outs_eq n (Nat.lt_of_succ_lt hn)
    rw [out_B]
    unfold sout0_B_0
    simp only [Nat.add_sub_cancel]
    rw [ih]

/-- The result at an index. -/
theorem G4_apply (a : Fin 1920) (b : Fin 7680) (t : Fin cfg0.N) (y : Fin 256) (hb : b.val = 256 * t.val + y.val) :
    Value.G4 m c (ix2 a b) = elem (conv (codes m c)) (dec (iblk m c 1 t)) (iblk m c 2 t) (iblk m c 3 t) a y := by
  have hN : t.val < 30 := lt_of_lt_of_eq t.isLt N_0
  have ha := a.isLt
  have hy := y.isLt
  have hp : Value.pt4Of (ix2 a b) = t.val := by
    show 30 * (a.val / 1920 - 0) + 1 * (b.val / 256 - 0) = t.val; omega
  have hl : Value.loc4Of (ix2 a b) = ix2 a y := by
    funext d
    match d with
    | ⟨0, _⟩ => exact Fin.ext (show a.val % 1920 = a.val by omega)
    | ⟨1, _⟩ => exact Fin.ext (show b.val % 256 = y.val by omega)
  unfold Value.G4
  rw [dif_pos (hp ▸ t.isLt), hl, ← Value.outsAt0_sweep m c _ (hp ▸ t.isLt), outs_eq]
  obtain ⟨t, ht⟩ := t
  simp only at hp
  subst hp
  exact block_apply _ _ _ _ _ _

end Cert.ProjectIdeal.Block

end
-- ==== Proof.ProjectRefPoint.lean ====
/-
  The projection's reference at an index, and the equation of the two results.
-/
module

public import proofs.«01_k».proof.Proof.Gen.ProjectRefIdeal.Run
public import Idealize.ShloMosaic.Lib.Pointwise

@[expose] public section

set_option maxRecDepth 16384

noncomputable section

namespace Cert.ProjectRefIdeal.Point

open Idealize.ShloMosaic Idealize.ShloMosaic.TcCoe Idealize.SL.Sem
open Cert.ProjectRefIdeal Cert.ProjectRefIdeal.Gen

/-- The reference's result as a function of its four arguments. -/
def result (cs : IVec S1920x7680 8) (xs : FVec Ideal S1920 .f32) (wc : IVec S7680x3840 8) (ws : FVec Ideal S7680 .f32) :
    FVec Ideal S1920x7680 .bf16 :=
  truncf .bf16 (mulf (mulf (addf (Host.dotGeneral dot_S1920x3840_S7680x3840_S1920x7680_1_1_0_0_n_n none (extractStridedSlice S1920x3840 ![0, 0] (sitofp .bf16 (extsi 32 cs natLt_8_32)) slices_S1920x7680_S1920x3840_0_0) (sitofp .bf16 (subi (andi (extui 32 wc natLt_8_32) (broadcastInDim S7680x3840 ![] bcast_S_S7680x3840 (constantI S_ 32 15#32))) (muli (broadcastInDim S7680x3840 ![] bcast_S_S7680x3840 (constantI S_ 32 16#32)) (extui 32 (cmpi .sge (andi (extui 32 wc natLt_8_32) (broadcastInDim S7680x3840 ![] bcast_S_S7680x3840 (constantI S_ 32 15#32))) (broadcastInDim S7680x3840 ![] bcast_S_S7680x3840 (constantI S_ 32 8#32))) natLt_1_32))))) (Host.dotGeneral dot_S1920x3840_S7680x3840_S1920x7680_1_1_0_0_n_n none (extractStridedSlice S1920x3840 ![0, 3840] (sitofp .bf16 (extsi 32 cs natLt_8_32)) slices_S1920x7680_S1920x3840_0_3840) (sitofp .bf16 (subi (Host.shrsi (extui 32 wc natLt_8_32) (broadcastInDim S7680x3840 ![] bcast_S_S7680x3840 (constantI S_ 32 4#32))) (muli (broadcastInDim S7680x3840 ![] bcast_S_S7680x3840 (constantI S_ 32 16#32)) (extui 32 (cmpi .sge (Host.shrsi (extui 32 wc natLt_8_32) (broadcastInDim S7680x3840 ![] bcast_S_S7680x3840 (constantI S_ 32 4#32))) (broadcastInDim S7680x3840 ![] bcast_S_S7680x3840 (constantI S_ 32 8#32))) natLt_1_32)))))) (broadcastInDim S1920x7680 ![0, 1] bcast_S1920x1_S1920x7680_0_1 (broadcastInDim S1920x1 ![0] bcast_S1920_S1920x1_0 xs))) (broadcastInDim S1920x7680 ![0, 1] bcast_S1x7680_S1920x7680_0_1 (broadcastInDim S1x7680 ![1] bcast_S7680_S1x7680_1 ws))) bitsLt_bf16_f32

/-- The signed value of a low nibble. -/
def lo (x : BitVec 8) : ℤ :=
  (IntOp.subi (IntOp.andi (BitVec.setWidth 32 x) 15#32) (IntOp.muli 16#32 (BitVec.setWidth 32
    (IntOp.cmpi CmpIPredicate.sge (IntOp.andi (BitVec.setWidth 32 x) 15#32) 8#32)))).toInt

/-- The signed value of a high nibble. -/
def hi (x : BitVec 8) : ℤ :=
  (IntOp.subi (IntOp.shrsi ArithUnit.host (BitVec.setWidth 32 x) 4#32) (IntOp.muli 16#32 (BitVec.setWidth 32
    (IntOp.cmpi CmpIPredicate.sge (IntOp.shrsi ArithUnit.host (BitVec.setWidth 32 x) 4#32) 8#32)))).toInt

/-- The low nibble moved to the high end of its byte, read as a signed byte, is sixteen times the nibble's signed value. -/
theorem shl_eq : ∀ x : BitVec 8, (x <<< 4).toInt = 16 * lo x := by
  unfold lo; decide +kernel

/-- So is the byte with its low nibble cleared. -/
theorem and_eq : ∀ x : BitVec 8, (x &&& 240#8).toInt = 16 * hi x := by
  unfold hi IntOp.shrsi; decide +kernel

/-- Widening a signed byte keeps its value. -/
theorem toInt_signExtend_32 (x : BitVec 8) : (x.signExtend 32).toInt = x.toInt :=
  BitVec.toInt_signExtend_of_le (by decide)

/-- The reference's result at an index. -/
theorem result_apply (cs : IVec S1920x7680 8) (xs : FVec Ideal S1920 .f32) (wc : IVec S7680x3840 8) (ws : FVec Ideal S7680 .f32)
    (a : Fin 1920) (b : Fin 7680) : result cs xs wc ws (ix2 a b)
      = ((∑ k : Fin 3840, (((cs (ix2 a ⟨k.val, by omega⟩)).toInt : ℝ) : EReal) * ((lo (wc (ix2 b k)) : ℝ) : EReal))
          + ∑ k : Fin 3840, (((cs (ix2 a ⟨3840 + k.val, by omega⟩)).toInt : ℝ) : EReal) * ((hi (wc (ix2 b k)) : ℝ) : EReal))
        * xs (ix1 a) * ws (ix1 b) := by
  pointwise [result]
  have e : ∀ x : BitVec 8, FloatOps.sitofp (F := Ideal) .bf16 (BitVec.signExtend 32 x) = (((x.toInt : ℤ) : ℝ) : EReal) := fun x =>
    congrArg (fun z : ℤ => ((z : ℝ) : EReal)) (toInt_signExtend_32 x)
  simp only [e]
  refine congrArg (fun z : EReal => z * xs (ix1 a) * ws (ix1 b)) (congrArg₂ (fun p q : EReal => p + q)
    (Finset.sum_congr rfl fun k _ => ?_) (Finset.sum_congr rfl fun k _ => ?_))
  · exact congrArg (fun z : EReal => (((cs (ix2 a ⟨k.val, _⟩)).toInt : ℝ) : EReal) * z) rfl
  · exact congrArg (fun z : EReal => (((cs (ix2 a ⟨3840 + k.val, _⟩)).toInt : ℝ) : EReal) * z) rfl

end Cert.ProjectRefIdeal.Point

end
-- ==== Proof.ProjectTie.lean ====
/-
  The two results of the projection are equal: the kernel's sum of products over both halves, of weights sixteen times
  too large, times one sixteenth, is the reference's sum over the low nibbles plus its sum over the high ones.
-/
module

public import proofs.«01_k».proof.Proof.ProjectResult
public import proofs.«01_k».proof.Proof.ProjectRefPoint

@[expose] public section

set_option maxRecDepth 16384

noncomputable section

namespace Cert.ProjectTie

open Idealize.ShloMosaic Idealize.ShloMosaic.TcCoe Idealize.SL.Sem

/-- A sum of reals, taken among the extended reals. -/
theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- The constant of the kernel's epilogue. -/
theorem sixteenth : Ideal.ofBits FTy.f32 1031798784#32 = (((1 / 16 : ℝ)) : EReal) := by
  simp [Ideal.ofBits, Ideal.ieee, -EReal.coe_mul]; norm_num

/-- The sum over both halves, of weights sixteen times too large, times one sixteenth. -/
theorem halves (g : Fin 7680 → ℝ) (w : Fin 7680 → ℝ) (lo hi : Fin 3840 → ℝ)
    (hlo : ∀ k : Fin 3840, w ⟨k.val, by omega⟩ = 16 * lo k) (hhi : ∀ k : Fin 3840, w ⟨3840 + k.val, by omega⟩ = 16 * hi k) :
    (∑ k : Fin 7680, ((g k : ℝ) : EReal) * ((w k : ℝ) : EReal)) * ((1 / 16 : ℝ) : EReal)
      = (∑ k : Fin 3840, ((g ⟨k.val, by omega⟩ : ℝ) : EReal) * ((lo k : ℝ) : EReal))
        + ∑ k : Fin 3840, ((g ⟨3840 + k.val, by omega⟩ : ℝ) : EReal) * ((hi k : ℝ) : EReal) := by
  simp only [← EReal.coe_mul, coe_sum, ← EReal.coe_add]
  congr 1
  rw [Fin.sum_univ_two_halves 3840 3840 rfl (fun k => g k * w k), add_mul, Finset.sum_mul, Finset.sum_mul]
  congr 1
  · refine Finset.sum_congr rfl fun k _ => ?_
    have h := hlo k
    show g ⟨k.val, _⟩ * w ⟨k.val, _⟩ * (1 / 16) = _
    rw [h]; ring
  · refine Finset.sum_congr rfl fun k _ => ?_
    have h := hhi k
    show g ⟨3840 + k.val, _⟩ * w ⟨3840 + k.val, _⟩ * (1 / 16) = _
    rw [h]; ring

open Cert.ProjectIdeal Cert.ProjectIdeal.Gen Cert.ProjectIdeal.Block

/-- One element of an output block, over the arguments of the whole call. -/
theorem elem_eq (cs : IVec S1920x7680 8) (xs : FVec Ideal S1920 .f32) (wc : IVec S7680x3840 8) (ws : FVec Ideal S7680 .f32)
    (x1 : Vec Ideal S256x3840 .i8) (x2 : Vec Ideal S1920x128 .f32) (x3 : Vec Ideal S1x256 .f32)
    (a : Fin 1920) (b : Fin 7680) (y : Fin 256) (h1 : ∀ k, x1 (ix2 y k) = wc (ix2 b k)) (h2 : ∀ k, x2 (ix2 a k) = xs (ix1 a))
    (h3 : x3 (ix2 0 y) = ws (ix1 b)) :
    elem (conv cs) (dec x1) x2 x3 a y = Cert.ProjectRefIdeal.Point.result cs xs wc ws (ix2 a b) := by
  rw [Cert.ProjectRefIdeal.Point.result_apply]
  unfold elem
  rw [h2, h3, sixteenth]
  refine congrArg (fun z : EReal => z * xs (ix1 a) * ws (ix1 b)) ?_
  refine (congrArg (fun z : EReal => z * ((1 / 16 : ℝ) : EReal)) (Finset.sum_congr rfl fun k _ =>
    congrArg (fun z : EReal => (((cs (ix2 a k)).toInt : ℝ) : EReal) * z) (dec_apply x1 y k))).trans ?_
  refine halves (fun k => ((cs (ix2 a k)).toInt : ℝ)) (fun k => (wt x1 y k : ℝ)) (fun k => (Cert.ProjectRefIdeal.Point.lo (wc (ix2 b k)) : ℝ))
    (fun k => (Cert.ProjectRefIdeal.Point.hi (wc (ix2 b k)) : ℝ)) (fun k => ?_) (fun k => ?_)
  · have e : wt x1 y ⟨k.val, by omega⟩ = 16 * Cert.ProjectRefIdeal.Point.lo (wc (ix2 b k)) := by
      unfold wt
      rw [dif_pos k.isLt, ← Cert.ProjectRefIdeal.Point.shl_eq, ← h1]
    rw [e]; push_cast; rfl
  · have hk : (⟨3840 + k.val - 3840, by omega⟩ : Fin 3840) = k := Fin.ext (by show 3840 + k.val - 3840 = k.val; omega)
    have e : wt x1 y ⟨3840 + k.val, by omega⟩ = 16 * Cert.ProjectRefIdeal.Point.hi (wc (ix2 b k)) := by
      unfold wt
      rw [dif_neg (by show ¬ 3840 + k.val < 3840; omega), ← Cert.ProjectRefIdeal.Point.and_eq, ← h1]
      simp only [hk]
    rw [e]; push_cast; rfl

/-- The kernel's result is the reference's function of the same arguments. -/
theorem result_eq (m : (ℓ : Loc nD τ sig) → Buf (Elt Ideal) ℓ) (c : Dev nD) :
    Cert.ProjectRefIdeal.Point.result (codes m c) (scales m c) (weights m c) (wscales m c) = Cert.ProjectIdeal.Value.G4 m c := by
  funext i
  have key : ∀ (a : Fin 1920) (b : Fin 7680), Cert.ProjectRefIdeal.Point.result (codes m c) (scales m c) (weights m c) (wscales m c) (ix2 a b)
      = Cert.ProjectIdeal.Value.G4 m c (ix2 a b) := by
    intro a b
    have hb := b.isLt
    have hN : cfg0.N = 30 := N_0
    have htb : b.val = 256 * (b.val / 256) + b.val % 256 := by omega
    refine Eq.trans ?_ (G4_apply m c a b ⟨b.val / 256, by omega⟩ ⟨b.val % 256, by omega⟩ htb).symm
    exact (elem_eq _ _ _ _ _ _ _ a b _ (fun k => iblk1_apply m c _ _ k b htb) (fun k => iblk2_apply m c _ a k) (iblk3_apply m c _ _ b htb)).symm
  rw [eq_ix2 i]
  exact key _ _

end Cert.ProjectTie

end
-- ==== Proof.RotateLoop.lean ====
module

public import proofs.«01_k».proof.Proof.Gen.Rotate.Loops
public import proofs.«01_k».proof.Proof.Gen.Rotate.Frame
public import Idealize.ShloMosaic.Lib.WholeRead
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Rotate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]
local notation "𝕄G" => MT nD τ sig Unit (Elt F) ℕ (UR sig nD τ) ℕ

/-- What one trip of the transposition loop holds: the three pieces of the input at their contents and the scratch it fills. -/
abbrev TripRes (c : Dev nD) (arg1 arg2 arg3 : Memref sig .tc .vmem S1x60x160x128 .bf16) (arg8 : Memref sig .tc .vmem S2x7680x128 .i32) (X1 : BufTy.Contents (Elt F) arg1.view.ty) (X2 : BufTy.Contents (Elt F) arg2.view.ty) (X3 : BufTy.Contents (Elt F) arg3.view.ty) (f : BufTy.Contents (Elt F) arg8.view.ty) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} f))

/-- One trip of the transposition loop, at a symbolic trip: the two pieces it stores are the run's own finds. -/
def trip_k0_t1 (𝒱 : Variants) (c : Dev nD) (bd : Option 𝒱.V) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) (k : Fin k0_t1_loop.trips) :
    { L : List (View.Piece (Elt F) S2x7680x128 .i32) // ∀ (E : Set ℕ) (f : BufTy.Contents (Elt F) arg8.view.ty),
      TripRes (F := F) c arg1 arg2 arg3 arg8 X1 X2 X3 f
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 k PUnit.unit)
          (fun _ => TripRes (F := F) c arg1 arg2 arg3 arg8 X1 X2 X3 (arg8.view.writes (Elt F) f L)) } := by
  have hk : k.val < 60 := Nat.lt_of_lt_of_le k.isLt k0_t1_abs.2.1
  refine ⟨?_, fun E f => ?run⟩
  case run =>
    unfold k0_t1_body
    simp only [k0_part1_eq_skeleton]
    iintro ⟨H0, H1, H2, HW⟩
    sl_exec_parts
    sl_step
    sl_close

/-- The pieces trip `k` stores. -/
abbrev tripL (𝒱 : Variants) (c : Dev nD) (bd : Option 𝒱.V) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) (k : Fin k0_t1_loop.trips) : List (View.Piece (Elt F) S2x7680x128 .i32) :=
  (trip_k0_t1 (F := F) 𝒱 c bd i arg1 harg1 arg2 harg2 arg3 harg3 arg4 harg4 arg5 harg5 arg6 harg6 arg7 harg7 arg8 harg8 arg9 harg9 X1 X2 X3 k).1

theorem trips_t1 : k0_t1_loop.trips = 60 := by decide

/-- The trip that writes row `y`: its row number modulo the 60 heads. -/
abbrev trip (y : S2x7680x128.Idx) : Fin k0_t1_loop.trips := ⟨(y 1).val % 60, by rw [trips_t1]; exact Nat.mod_lt _ (by decide)⟩

/-- What the scratch holds at `y` after the loop: what that trip's pieces leave there. -/
def T (𝒱 : Variants) (c : Dev nD) (bd : Option 𝒱.V) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) : Vec F S2x7680x128 .i32 := fun y =>
  arg8.view.read (Elt F) (arg8.view.writes (Elt F) arg8.view.junk (tripL (F := F) 𝒱 c bd i arg1 harg1 arg2 harg2 arg3 harg3 arg4 harg4 arg5 harg5 arg6 harg6 arg7 harg7 arg8 harg8 arg9 harg9 X1 X2 X3 (trip y))) y

/-- A row some piece of trip `k` holds is one of its rows. -/
theorem trip_mem (𝒱 : Variants) (c : Dev nD) (bd : Option 𝒱.V) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) (k : Fin k0_t1_loop.trips) (y : S2x7680x128.Idx)
    (p : View.Piece (Elt F) S2x7680x128 .i32) (hp : p ∈ tripL (F := F) 𝒱 c bd i arg1 harg1 arg2 harg2 arg3 harg3 arg4 harg4 arg5 harg5 arg6 harg6 arg7 harg7 arg8 harg8 arg9 harg9 X1 X2 X3 k) (hy : y ∈ p.1.set) : (y 1).val % 60 = k.val := by
  have hk : k.val < 60 := Nat.lt_of_lt_of_le k.isLt k0_t1_abs.2.1
  simp only [tripL, trip_k0_t1, List.mem_cons, List.not_mem_nil, or_false] at hp
  rcases hp with rfl | rfl
  all_goals
    obtain ⟨j, hj, h⟩ := (LoadRect.mem_set _).mp hy 1
    simp only [k0_off4_eq, k0_off2_eq] at h
    have h' : (y 1).val = k.val + 60 * j := h
    omega

/-- And each of its rows is in one of its pieces. -/
theorem trip_cover (𝒱 : Variants) (c : Dev nD) (bd : Option 𝒱.V) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) (k : Fin k0_t1_loop.trips) (y : S2x7680x128.Idx)
    (h : (y 1).val % 60 = k.val) : ∃ p ∈ tripL (F := F) 𝒱 c bd i arg1 harg1 arg2 harg2 arg3 harg3 arg4 harg4 arg5 harg5 arg6 harg6 arg7 harg7 arg8 harg8 arg9 harg9 X1 X2 X3 k, y ∈ p.1.set := by
  have hk : k.val < 60 := Nat.lt_of_lt_of_le k.isLt k0_t1_abs.2.1
  have h0 : (y 0).val < 2 := (y 0).isLt
  have h1 : (y 1).val < 7680 := (y 1).isLt
  have h2 : (y 2).val < 128 := (y 2).isLt

  simp only [tripL, trip_k0_t1, List.mem_cons, List.not_mem_nil, or_false]
  rcases (by omega : (y 0).val = 1 ∨ (y 0).val = 0) with e | e
  · refine ⟨_, .inl rfl, (LoadRect.mem_set _).mpr fun ax => ?_⟩
    simp only [k0_off4_eq]
    fin_cases ax
    · exact ⟨0, by decide, e⟩
    · exact ⟨(y 1).val / 60, (by omega : (y 1).val / 60 < 128), (by omega : (y 1).val = k.val + 60 * ((y 1).val / 60))⟩
    · exact ⟨(y 2).val, h2, (by omega : (y 2).val = 0 + 1 * (y 2).val)⟩

  · refine ⟨_, .inr rfl, (LoadRect.mem_set _).mpr fun ax => ?_⟩
    simp only [k0_off2_eq]
    fin_cases ax
    · exact ⟨0, by decide, e⟩
    · exact ⟨(y 1).val / 60, (by omega : (y 1).val / 60 < 128), (by omega : (y 1).val = k.val + 60 * ((y 1).val / 60))⟩
    · exact ⟨(y 2).val, h2, (by omega : (y 2).val = 0 + 1 * (y 2).val)⟩

/-- One trip more of the rows are as the loop leaves them. -/
theorem trip_step (𝒱 : Variants) (c : Dev nD) (bd : Option 𝒱.V) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) (k : Fin k0_t1_loop.trips) (f : BufTy.Contents (Elt F) arg8.view.ty)
    (h : ∀ y : S2x7680x128.Idx, (y 1).val % 60 < k.val → arg8.view.read (Elt F) f y = T (F := F) 𝒱 c bd i arg1 harg1 arg2 harg2 arg3 harg3 arg4 harg4 arg5 harg5 arg6 harg6 arg7 harg7 arg8 harg8 arg9 harg9 X1 X2 X3 y) (y : S2x7680x128.Idx) (hy : (y 1).val % 60 < k.val + 1) :
    arg8.view.read (Elt F) (arg8.view.writes (Elt F) f (tripL (F := F) 𝒱 c bd i arg1 harg1 arg2 harg2 arg3 harg3 arg4 harg4 arg5 harg5 arg6 harg6 arg7 harg7 arg8 harg8 arg9 harg9 X1 X2 X3 k)) y = T (F := F) 𝒱 c bd i arg1 harg1 arg2 harg2 arg3 harg3 arg4 harg4 arg5 harg5 arg6 harg6 arg7 harg7 arg8 harg8 arg9 harg9 X1 X2 X3 y := by
  by_cases e : (y 1).val % 60 = k.val
  · have ek : trip y = k := Fin.ext e
    unfold T
    rw [ek]
    exact View.read_writes_apply_eq _ _ _ _ y _ (trip_cover (F := F) 𝒱 c bd i arg1 harg1 arg2 harg2 arg3 harg3 arg4 harg4 arg5 harg5 arg6 harg6 arg7 harg7 arg8 harg8 arg9 harg9 X1 X2 X3 k y e)
  · rw [View.read_writes_apply_of_forall_not_mem _ _ y _ (fun p hp hm => e (trip_mem (F := F) 𝒱 c bd i arg1 harg1 arg2 harg2 arg3 harg3 arg4 harg4 arg5 harg5 arg6 harg6 arg7 harg7 arg8 harg8 arg9 harg9 X1 X2 X3 k y p hp hm))]
    exact h y (by omega)

/-- The loop's invariant before trip `k`: the inputs are held, and the scratch's rows of the heads below `k` are as the loop leaves them. -/
abbrev inv_k0_t1 (𝒱 : Variants) (c : Dev nD) (bd : Option 𝒱.V) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) (k : ℕ) (_u : PUnit) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
    ∗ (∃ f, (arg8.view.loc (c : Thread nD τ) ↦[arg8.view.set]{fullShare} f) ∗ ⌜∀ y : S2x7680x128.Idx, (y 1).val % 60 < k → arg8.view.read (Elt F) f y = T (F := F) 𝒱 c bd i arg1 harg1 arg2 harg2 arg3 harg3 arg4 harg4 arg5 harg5 arg6 harg6 arg7 harg7 arg8 harg8 arg9 harg9 X1 X2 X3 y⌝))

set_option warn.classDefReducibility false in
/-- The transposition loop by its invariant. -/
@[sl_loop] def loopInv_k0_t1 (𝒱 : Variants) (c : Dev nD) (bd : Option 𝒱.V) (E : Set ℕ) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 where
  inv := inv_k0_t1 (F := F) 𝒱 c bd i arg1 harg1 arg2 harg2 arg3 harg3 arg4 harg4 arg5 harg5 arg6 harg6 arg7 harg7 arg8 harg8 arg9 harg9 X1 X2 X3
  step k acc := by
    iintro ⟨H0, H1, H2, ⟨%f, HW, %h⟩⟩
    iapply (wp_wand_r Idealize.ShloMosaic.frame (wpE (defs₀ (F := F)) 𝒱 (c : Thread nD τ) bd) E)
    isplitl [H0 H1 H2 HW]
    · iapply ((trip_k0_t1 (F := F) 𝒱 c bd i arg1 harg1 arg2 harg2 arg3 harg3 arg4 harg4 arg5 harg5 arg6 harg6 arg7 harg7 arg8 harg8 arg9 harg9 X1 X2 X3 k).2 E f)
      isplitl [H0]; · iexact H0
      isplitl [H1]; · iexact H1
      isplitl [H2]; · iexact H2
      iexact HW
    · iintro %_ ⟨H0, H1, H2, HW⟩
      isplitl [H0]; · iexact H0
      isplitl [H1]; · iexact H1
      isplitl [H2]; · iexact H2
      iexists _; isplitl [HW]; · iexact HW
      ipureintro; exact trip_step (F := F) 𝒱 c bd i arg1 harg1 arg2 harg2 arg3 harg3 arg4 harg4 arg5 harg5 arg6 harg6 arg7 harg7 arg8 harg8 arg9 harg9 X1 X2 X3 k f h

end Cert.Rotate.Gen

end
-- ==== Proof.RotateRun.lean ====
module

public import proofs.«01_k».proof.Proof.RotateLoop
public import Idealize.ShloMosaic.Lib.Pipeline.FrameBody
public import Idealize.ShloMosaic.Lib.Ring
public import Idealize.ShloMosaic.Lib.WordCmp

@[expose] public section

set_option maxRecDepth 16384

noncomputable section

namespace Cert.Rotate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- A load whose value is not used, then a store through the same rectangle: the store's piece is consed on. -/
theorem load_store {cs : CoreSpace} {s : Shape} {e : EltTy} {α : Type} (c : Dev nD) (E : Set ℕ) (M : Memref sig .tc cs s e) (r : Rect s) (w : r.shape.Idx → Elt F e)
    (hl : M.view.LoadsAt r.toLoadRect) (hx : (M.access r).Stores Finset.univ) (hm : Finset.univ = Finset.univ ∨ ∀ ax, r.stride ax = 1)
    (f : BufTy.Contents (Elt F) M.view.ty) (L : List (View.Piece (Elt F) s e)) (k : PUnit → Prog (TpuEff nD τ sig (Elt F) Λ₀ .tc) α) (K : α → sProp 𝕄) :
    (M.view.loc (c : Thread nD τ) ↦[M.view.set]{fullShare} M.view.writes (Elt F) f L)
      ⊢ iprop(((M.view.loc (c : Thread nD τ) ↦[M.view.set]{fullShare} M.view.writes (Elt F) f (⟨r, w⟩ :: L)) -∗ wp frame (wpE (defs₀ (F := F)) Variants.none (c : Thread nD τ) none) E (k ⟨⟩) K)
        -∗ wp frame (wpE (defs₀ (F := F)) Variants.none (c : Thread nD τ) none) E (Prog.lift (.load M r.toLoadRect hl) >>= fun _ => Prog.lift (.store M r w Finset.univ hx hm) >>= k) K) := by
  show _ ⊢ iprop(_ -∗ wp frame (wpE (defs₀ (F := F)) Variants.none (c : Thread nD τ) none) E (.op (.load M r.toLoadRect hl) fun _ => .op (.store M r w Finset.univ hx hm) k) K)
  iintro H Hk
  iapply (wp_load_rect Variants.none (c : Thread nD τ) none E (m := M) (r := r) (by exact (M.view.set_slice_subset r))) $$ H; iintro H
  iapply (wp_store_writes Variants.none (c : Thread nD τ) none E (m := M) (r := r) (by exact (M.view.set_slice_subset r))) $$ H; iintro H
  iapply Hk; iexact H

/-- A load whose value is not used, then a store through the same rectangle: the first piece. -/
theorem load_store₀ {cs : CoreSpace} {s : Shape} {e : EltTy} {α : Type} (c : Dev nD) (E : Set ℕ) (M : Memref sig .tc cs s e) (r : Rect s) (w : r.shape.Idx → Elt F e)
    (hl : M.view.LoadsAt r.toLoadRect) (hx : (M.access r).Stores Finset.univ) (hm : Finset.univ = Finset.univ ∨ ∀ ax, r.stride ax = 1)
    (f : BufTy.Contents (Elt F) M.view.ty) (k : PUnit → Prog (TpuEff nD τ sig (Elt F) Λ₀ .tc) α) (K : α → sProp 𝕄) :
    (M.view.loc (c : Thread nD τ) ↦[M.view.set]{fullShare} f)
      ⊢ iprop(((M.view.loc (c : Thread nD τ) ↦[M.view.set]{fullShare} M.view.writes (Elt F) f [⟨r, w⟩]) -∗ wp frame (wpE (defs₀ (F := F)) Variants.none (c : Thread nD τ) none) E (k ⟨⟩) K)
        -∗ wp frame (wpE (defs₀ (F := F)) Variants.none (c : Thread nD τ) none) E (Prog.lift (.load M r.toLoadRect hl) >>= fun _ => Prog.lift (.store M r w Finset.univ hx hm) >>= k) K) :=
  load_store (F := F) c E M r w hl hx hm f [] k K

/-- What the second loop carries and stores in all, from the transposed scratch. -/
abbrev st2 (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (x0 x1 x2 : Vec F S1x60x160x128 .bf16) (x3 : Vec F S240x240 .bf16) :=
  st_k0_t2 (F := F) Variants.none c none i arg1 harg1 arg2 harg2 arg3 harg3 arg4 harg4 arg5 harg5 arg6 harg6 arg7 harg7 arg8 harg8 arg9 harg9 (Scalar.ofBits .f32 0x3E0432A5#32) (harg4.unread x3) (harg8.unread (T (F := F) Variants.none c none i arg1 harg1 arg2 harg2 arg3 harg3 arg4 harg4 arg5 harg5 arg6 harg6 arg7 harg7 arg8 harg8 arg9 harg9 (harg1.unread x0) (harg2.unread x1) (harg3.unread x2))) (k0_pay21 (F := F), k0_pay21 (F := F)) k0_t2_loop.trips

/-- The peaks the second loop carries out. -/
abbrev peaks (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (x0 x1 x2 : Vec F S1x60x160x128 .bf16) (x3 : Vec F S240x240 .bf16) : FVec F S8x256 .f32 × FVec F S8x256 .f32 := (st2 (F := F) c i arg1 harg1 arg2 harg2 arg3 harg3 arg4 harg4 arg5 harg5 arg6 harg6 arg7 harg7 arg8 harg8 arg9 harg9 x0 x1 x2 x3).1

/-- Its pieces tile the rotated scratch. -/
theorem st2_cover (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (x0 x1 x2 : Vec F S1x60x160x128 .bf16) (x3 : Vec F S240x240 .bf16) (y : S2x7680x256.Idx) :
    ∃ pc ∈ (st2 (F := F) c i arg1 harg1 arg2 harg2 arg3 harg3 arg4 harg4 arg5 harg5 arg6 harg6 arg7 harg7 arg8 harg8 arg9 harg9 x0 x1 x2 x3).2, y ∈ pc.1.set :=
  View.cover_of_tiledL (st2 (F := F) c i arg1 harg1 arg2 harg2 arg3 harg3 arg4 harg4 arg5 harg5 arg6 harg6 arg7 harg7 arg8 harg8 arg9 harg9 x0 x1 x2 x3).2 S1x240x256.size (by sl_kernel_rfl) y

/-- The rotated rows in the second scratch. -/
def Zv (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (x0 x1 x2 : Vec F S1x60x160x128 .bf16) (x3 : Vec F S240x240 .bf16) : Vec F S2x7680x256 .f32 :=
  arg9.view.read (Elt F) (arg9.view.writes (Elt F) arg9.view.junk (st2 (F := F) c i arg1 harg1 arg2 harg2 arg3 harg3 arg4 harg4 arg5 harg5 arg6 harg6 arg7 harg7 arg8 harg8 arg9 harg9 x0 x1 x2 x3).2)

/-- The pieces left in the codes' block, -/
abbrev L4 (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (x0 x1 x2 : Vec F S1x60x160x128 .bf16) (x3 : Vec F S240x240 .bf16) : List (View.Piece (Elt F) S480x7680 .i8) :=
  pb_k0_t3 (F := F) Variants.none c none i arg1 harg1 arg2 harg2 arg3 harg3 arg4 harg4 arg5 harg5 arg6 harg6 arg7 harg7 arg8 harg8 arg9 harg9 (k0_pay26 (peaks (F := F) c i arg1 harg1 arg2 harg2 arg3 harg3 arg4 harg4 arg5 harg5 arg6 harg6 arg7 harg7 arg8 harg8 arg9 harg9 x0 x1 x2 x3).1) (k0_pay27 (peaks (F := F) c i arg1 harg1 arg2 harg2 arg3 harg3 arg4 harg4 arg5 harg5 arg6 harg6 arg7 harg7 arg8 harg8 arg9 harg9 x0 x1 x2 x3).1) (k0_pay29 (peaks (F := F) c i arg1 harg1 arg2 harg2 arg3 harg3 arg4 harg4 arg5 harg5 arg6 harg6 arg7 harg7 arg8 harg8 arg9 harg9 x0 x1 x2 x3).2) (k0_pay30 (peaks (F := F) c i arg1 harg1 arg2 harg2 arg3 harg3 arg4 harg4 arg5 harg5 arg6 harg6 arg7 harg7 arg8 harg8 arg9 harg9 x0 x1 x2 x3).2) (harg9.unread (Zv (F := F) c i arg1 harg1 arg2 harg2 arg3 harg3 arg4 harg4 arg5 harg5 arg6 harg6 arg7 harg7 arg8 harg8 arg9 harg9 x0 x1 x2 x3)) k0_t3_loop.trips
/-- in the spread scales' block, -/
abbrev L5 (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (x0 x1 x2 : Vec F S1x60x160x128 .bf16) (x3 : Vec F S240x240 .bf16) : List (View.Piece (Elt F) S480x128 .f32) :=
  [⟨(⟨(⟨![3, 0], S120x128.size, ![4, 1], inb_S480x128_S120x128_3_0_s_4_1⟩ : LoadRect S480x128), spos_4_1⟩ : Rect S480x128), (k0_pay6 (k0_pay30 (peaks (F := F) c i arg1 harg1 arg2 harg2 arg3 harg3 arg4 harg4 arg5 harg5 arg6 harg6 arg7 harg7 arg8 harg8 arg9 harg9 x0 x1 x2 x3).2))⟩, ⟨(⟨(⟨![2, 0], S120x128.size, ![4, 1], inb_S480x128_S120x128_2_0_s_4_1⟩ : LoadRect S480x128), spos_4_1⟩ : Rect S480x128), (k0_pay4 (k0_pay29 (peaks (F := F) c i arg1 harg1 arg2 harg2 arg3 harg3 arg4 harg4 arg5 harg5 arg6 harg6 arg7 harg7 arg8 harg8 arg9 harg9 x0 x1 x2 x3).2))⟩, ⟨(⟨(⟨![1, 0], S120x128.size, ![4, 1], inb_S480x128_S120x128_1_0_s_4_1⟩ : LoadRect S480x128), spos_4_1⟩ : Rect S480x128), (k0_pay2 (k0_pay27 (peaks (F := F) c i arg1 harg1 arg2 harg2 arg3 harg3 arg4 harg4 arg5 harg5 arg6 harg6 arg7 harg7 arg8 harg8 arg9 harg9 x0 x1 x2 x3).1))⟩, ⟨(⟨(⟨![0, 0], S120x128.size, ![4, 1], inb_S480x128_S120x128_0_0_s_4_1⟩ : LoadRect S480x128), spos_4_1⟩ : Rect S480x128), (k0_pay32 (peaks (F := F) c i arg1 harg1 arg2 harg2 arg3 harg3 arg4 harg4 arg5 harg5 arg6 harg6 arg7 harg7 arg8 harg8 arg9 harg9 x0 x1 x2 x3).1)⟩]
/-- and in the scales' block. -/
abbrev L6 (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (x0 x1 x2 : Vec F S1x60x160x128 .bf16) (x3 : Vec F S240x240 .bf16) : List (View.Piece (Elt F) S1x4x128 .f32) :=
  [⟨(Rect.unit (s := S1x4x128) ![0, 3, 0] S1x1x128.size inb_S1x4x128_S1x1x128_0_3_0), (k0_pay5 (k0_pay30 (peaks (F := F) c i arg1 harg1 arg2 harg2 arg3 harg3 arg4 harg4 arg5 harg5 arg6 harg6 arg7 harg7 arg8 harg8 arg9 harg9 x0 x1 x2 x3).2))⟩, ⟨(Rect.unit (s := S1x4x128) ![0, 2, 0] S1x1x128.size inb_S1x4x128_S1x1x128_0_2_0), (k0_pay3 (k0_pay29 (peaks (F := F) c i arg1 harg1 arg2 harg2 arg3 harg3 arg4 harg4 arg5 harg5 arg6 harg6 arg7 harg7 arg8 harg8 arg9 harg9 x0 x1 x2 x3).2))⟩, ⟨(Rect.unit (s := S1x4x128) ![0, 1, 0] S1x1x128.size inb_S1x4x128_S1x1x128_0_1_0), (k0_pay1 (k0_pay27 (peaks (F := F) c i arg1 harg1 arg2 harg2 arg3 harg3 arg4 harg4 arg5 harg5 arg6 harg6 arg7 harg7 arg8 harg8 arg9 harg9 x0 x1 x2 x3).1))⟩, ⟨(Rect.unit (s := S1x4x128) ![0, 0, 0] S1x1x128.size inb_S1x4x128_S1x1x128_0_0_0), (k0_pay31 (peaks (F := F) c i arg1 harg1 arg2 harg2 arg3 harg3 arg4 harg4 arg5 harg5 arg6 harg6 arg7 harg7 arg8 harg8 arg9 harg9 x0 x1 x2 x3).1)⟩]

set_option maxHeartbeats 4000000 in
/-- The body's run: from the inputs' blocks, the outputs and the scratch at anything, it leaves the inputs as they were and the outputs with their pieces written. -/
theorem kernelRun (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (x0 x1 x2 : Vec F S1x60x160x128 .bf16) (x3 : Vec F S240x240 .bf16) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f (L4 (F := F) c i arg1 harg1 arg2 harg2 arg3 harg3 arg4 harg4 arg5 harg5 arg6 harg6 arg7 harg7 arg8 harg8 arg9 harg9 x0 x1 x2 x3)) ∗ (∃ f, arg6.view.loc (c : Thread nD τ) ↦[arg6.view.set]{fullShare} arg6.view.writes (Elt F) f (L5 (F := F) c i arg1 harg1 arg2 harg2 arg3 harg3 arg4 harg4 arg5 harg5 arg6 harg6 arg7 harg7 arg8 harg8 arg9 harg9 x0 x1 x2 x3)) ∗ (∃ f, arg7.view.loc (c : Thread nD τ) ↦[arg7.view.set]{fullShare} arg7.view.writes (Elt F) f (L6 (F := F) c i arg1 harg1 arg2 harg2 arg3 harg3 arg4 harg4 arg5 harg5 arg6 harg6 arg7 harg7 arg8 harg8 arg9 harg9 x0 x1 x2 x3)) ∗ (∃ d, owns (c : Thread nD τ) arg8 fullShare d) ∗ (∃ d, owns (c : Thread nD τ) arg9 fullShare d)) -∗ K ⟨⟩))
          ⊢ wp frame (wpE (defs₀ (F := F)) Variants.none (c : Thread nD τ) none) E (cc0_rotate_quant (F := F) i arg1 harg1 arg2 harg2 arg3 harg3 arg4 harg4 arg5 harg5 arg6 harg6 arg7 harg7 arg8 harg8 arg9 harg9) K := by
  rw [cc0_rotate_quant_eq_skeleton]; unfold cc0_rotate_quant_skel
  rw [k0_part4_eq_skeleton]; unfold k0_part4_skel
  simp only [LawfulMonad.bind_assoc, LawfulMonad.pure_bind]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  iapply (Scf.wp_for_bind frame (wpE (defs₀ (F := F)) Variants.none (c : Thread nD τ) none) E k0_t1_loop.lb k0_t1_loop.ub k0_t1_loop.st k0_t1_ok _ _
    (inv_k0_t1 (F := F) Variants.none c none i arg1 harg1 arg2 harg2 arg3 harg3 arg4 harg4 arg5 harg5 arg6 harg6 arg7 harg7 arg8 harg8 arg9 harg9 (harg1.unread x0) (harg2.unread x1) (harg3.unread x2))
    (loopInv_k0_t1 (F := F) Variants.none c none E i arg1 harg1 arg2 harg2 arg3 harg3 arg4 harg4 arg5 harg5 arg6 harg6 arg7 harg7 arg8 harg8 arg9 harg9 (harg1.unread x0) (harg2.unread x1) (harg3.unread x2)).step) $$ [H0 H1 H2 H7]
  · isplitl [H0]; · iexact H0
    isplitl [H1]; · iexact H1
    isplitl [H2]; · iexact H2
    iexists _; isplitl [H7]; · iexact H7
    ipureintro; intro y hy; exact absurd hy (Nat.not_lt_zero _)
  iintro %_ ⟨H0, H1, H2, ⟨%f, H7, %hf⟩⟩
  obtain rfl : f = harg8.unread (T (F := F) Variants.none c none i arg1 harg1 arg2 harg2 arg3 harg3 arg4 harg4 arg5 harg5 arg6 harg6 arg7 harg7 arg8 harg8 arg9 harg9 (harg1.unread x0) (harg2.unread x1) (harg3.unread x2)) :=
    harg8.eq_unread (funext fun y => hf y (lt_of_lt_of_eq (Nat.mod_lt _ (by decide)) trips_t1.symm))
  iapply (Scf.wp_for_bind frame (wpE (defs₀ (F := F)) Variants.none (c : Thread nD τ) none) E k0_t2_loop.lb k0_t2_loop.ub k0_t2_loop.st k0_t2_ok _ _
    (inv_k0_t2 (F := F) Variants.none c none i arg1 harg1 arg2 harg2 arg3 harg3 arg4 harg4 arg5 harg5 arg6 harg6 arg7 harg7 arg8 harg8 arg9 harg9 (Scalar.ofBits .f32 0x3E0432A5#32) (harg4.unread x3) (harg8.unread (T (F := F) Variants.none c none i arg1 harg1 arg2 harg2 arg3 harg3 arg4 harg4 arg5 harg5 arg6 harg6 arg7 harg7 arg8 harg8 arg9 harg9 (harg1.unread x0) (harg2.unread x1) (harg3.unread x2))) f8 (k0_pay21 (F := F), k0_pay21 (F := F)))
    (loopInv_k0_t2 (F := F) Variants.none c none E i arg1 harg1 arg2 harg2 arg3 harg3 arg4 harg4 arg5 harg5 arg6 harg6 arg7 harg7 arg8 harg8 arg9 harg9 (Scalar.ofBits .f32 0x3E0432A5#32) (harg4.unread x3) (harg8.unread (T (F := F) Variants.none c none i arg1 harg1 arg2 harg2 arg3 harg3 arg4 harg4 arg5 harg5 arg6 harg6 arg7 harg7 arg8 harg8 arg9 harg9 (harg1.unread x0) (harg2.unread x1) (harg3.unread x2))) f8 (k0_pay21 (F := F), k0_pay21 (F := F))).step) $$ [H3 H7 H8]
  · isplitl [H3]; · iexact H3
    isplitl [H7]; · iexact H7
    isplitl [H8]
    · iexists _; isplitl [H8]; · iexact H8
      ipureintro; rfl
    ipureintro; rfl
  iintro %acc ⟨H3, H7, ⟨%g, H8, %hg⟩, %hacc⟩
  obtain rfl : g = harg9.unread (Zv (F := F) c i arg1 harg1 arg2 harg2 arg3 harg3 arg4 harg4 arg5 harg5 arg6 harg6 arg7 harg7 arg8 harg8 arg9 harg9 x0 x1 x2 x3) :=
    harg9.eq_unread (hg ▸ View.read_writes_of_cover _ _ _ _ _ (st2_cover (F := F) c i arg1 harg1 arg2 harg2 arg3 harg3 arg4 harg4 arg5 harg5 arg6 harg6 arg7 harg7 arg8 harg8 arg9 harg9 x0 x1 x2 x3))
  obtain rfl : acc = peaks (F := F) c i arg1 harg1 arg2 harg2 arg3 harg3 arg4 harg4 arg5 harg5 arg6 harg6 arg7 harg7 arg8 harg8 arg9 harg9 x0 x1 x2 x3 := hacc

  iapply (load_store₀ c E arg7 (Rect.unit (s := S1x4x128) ![0, 0, 0] S1x1x128.size inb_S1x4x128_S1x1x128_0_0_0) (k0_pay31 (peaks (F := F) c i arg1 harg1 arg2 harg2 arg3 harg3 arg4 harg4 arg5 harg5 arg6 harg6 arg7 harg7 arg8 harg8 arg9 harg9 x0 x1 x2 x3).1) _ _ _ f6  _ _) $$ H6; iintro H6
  iapply (load_store₀ c E arg6 (⟨(⟨![0, 0], S120x128.size, ![4, 1], inb_S480x128_S120x128_0_0_s_4_1⟩ : LoadRect S480x128), spos_4_1⟩ : Rect S480x128) (k0_pay32 (peaks (F := F) c i arg1 harg1 arg2 harg2 arg3 harg3 arg4 harg4 arg5 harg5 arg6 harg6 arg7 harg7 arg8 harg8 arg9 harg9 x0 x1 x2 x3).1) _ _ _ f5  _ _) $$ H5; iintro H5
  iapply (load_store c E arg7 (Rect.unit (s := S1x4x128) ![0, 1, 0] S1x1x128.size inb_S1x4x128_S1x1x128_0_1_0) (k0_pay1 (k0_pay27 (peaks (F := F) c i arg1 harg1 arg2 harg2 arg3 harg3 arg4 harg4 arg5 harg5 arg6 harg6 arg7 harg7 arg8 harg8 arg9 harg9 x0 x1 x2 x3).1)) _ _ _ f6 [⟨(Rect.unit (s := S1x4x128) ![0, 0, 0] S1x1x128.size inb_S1x4x128_S1x1x128_0_0_0), (k0_pay31 (peaks (F := F) c i arg1 harg1 arg2 harg2 arg3 harg3 arg4 harg4 arg5 harg5 arg6 harg6 arg7 harg7 arg8 harg8 arg9 harg9 x0 x1 x2 x3).1)⟩] _ _) $$ H6; iintro H6
  iapply (load_store c E arg6 (⟨(⟨![1, 0], S120x128.size, ![4, 1], inb_S480x128_S120x128_1_0_s_4_1⟩ : LoadRect S480x128), spos_4_1⟩ : Rect S480x128) (k0_pay2 (k0_pay27 (peaks (F := F) c i arg1 harg1 arg2 harg2 arg3 harg3 arg4 harg4 arg5 harg5 arg6 harg6 arg7 harg7 arg8 harg8 arg9 harg9 x0 x1 x2 x3).1)) _ _ _ f5 [⟨(⟨(⟨![0, 0], S120x128.size, ![4, 1], inb_S480x128_S120x128_0_0_s_4_1⟩ : LoadRect S480x128), spos_4_1⟩ : Rect S480x128), (k0_pay32 (peaks (F := F) c i arg1 harg1 arg2 harg2 arg3 harg3 arg4 harg4 arg5 harg5 arg6 harg6 arg7 harg7 arg8 harg8 arg9 harg9 x0 x1 x2 x3).1)⟩] _ _) $$ H5; iintro H5
  iapply (load_store c E arg7 (Rect.unit (s := S1x4x128) ![0, 2, 0] S1x1x128.size inb_S1x4x128_S1x1x128_0_2_0) (k0_pay3 (k0_pay29 (peaks (F := F) c i arg1 harg1 arg2 harg2 arg3 harg3 arg4 harg4 arg5 harg5 arg6 harg6 arg7 harg7 arg8 harg8 arg9 harg9 x0 x1 x2 x3).2)) _ _ _ f6 [⟨(Rect.unit (s := S1x4x128) ![0, 1, 0] S1x1x128.size inb_S1x4x128_S1x1x128_0_1_0), (k0_pay1 (k0_pay27 (peaks (F := F) c i arg1 harg1 arg2 harg2 arg3 harg3 arg4 harg4 arg5 harg5 arg6 harg6 arg7 harg7 arg8 harg8 arg9 harg9 x0 x1 x2 x3).1))⟩, ⟨(Rect.unit (s := S1x4x128) ![0, 0, 0] S1x1x128.size inb_S1x4x128_S1x1x128_0_0_0), (k0_pay31 (peaks (F := F) c i arg1 harg1 arg2 harg2 arg3 harg3 arg4 harg4 arg5 harg5 arg6 harg6 arg7 harg7 arg8 harg8 arg9 harg9 x0 x1 x2 x3).1)⟩] _ _) $$ H6; iintro H6
  iapply (load_store c E arg6 (⟨(⟨![2, 0], S120x128.size, ![4, 1], inb_S480x128_S120x128_2_0_s_4_1⟩ : LoadRect S480x128), spos_4_1⟩ : Rect S480x128) (k0_pay4 (k0_pay29 (peaks (F := F) c i arg1 harg1 arg2 harg2 arg3 harg3 arg4 harg4 arg5 harg5 arg6 harg6 arg7 harg7 arg8 harg8 arg9 harg9 x0 x1 x2 x3).2)) _ _ _ f5 [⟨(⟨(⟨![1, 0], S120x128.size, ![4, 1], inb_S480x128_S120x128_1_0_s_4_1⟩ : LoadRect S480x128), spos_4_1⟩ : Rect S480x128), (k0_pay2 (k0_pay27 (peaks (F := F) c i arg1 harg1 arg2 harg2 arg3 harg3 arg4 harg4 arg5 harg5 arg6 harg6 arg7 harg7 arg8 harg8 arg9 harg9 x0 x1 x2 x3).1))⟩, ⟨(⟨(⟨![0, 0], S120x128.size, ![4, 1], inb_S480x128_S120x128_0_0_s_4_1⟩ : LoadRect S480x128), spos_4_1⟩ : Rect S480x128), (k0_pay32 (peaks (F := F) c i arg1 harg1 arg2 harg2 arg3 harg3 arg4 harg4 arg5 harg5 arg6 harg6 arg7 harg7 arg8 harg8 arg9 harg9 x0 x1 x2 x3).1)⟩] _ _) $$ H5; iintro H5
  iapply (load_store c E arg7 (Rect.unit (s := S1x4x128) ![0, 3, 0] S1x1x128.size inb_S1x4x128_S1x1x128_0_3_0) (k0_pay5 (k0_pay30 (peaks (F := F) c i arg1 harg1 arg2 harg2 arg3 harg3 arg4 harg4 arg5 harg5 arg6 harg6 arg7 harg7 arg8 harg8 arg9 harg9 x0 x1 x2 x3).2)) _ _ _ f6 [⟨(Rect.unit (s := S1x4x128) ![0, 2, 0] S1x1x128.size inb_S1x4x128_S1x1x128_0_2_0), (k0_pay3 (k0_pay29 (peaks (F := F) c i arg1 harg1 arg2 harg2 arg3 harg3 arg4 harg4 arg5 harg5 arg6 harg6 arg7 harg7 arg8 harg8 arg9 harg9 x0 x1 x2 x3).2))⟩, ⟨(Rect.unit (s := S1x4x128) ![0, 1, 0] S1x1x128.size inb_S1x4x128_S1x1x128_0_1_0), (k0_pay1 (k0_pay27 (peaks (F := F) c i arg1 harg1 arg2 harg2 arg3 harg3 arg4 harg4 arg5 harg5 arg6 harg6 arg7 harg7 arg8 harg8 arg9 harg9 x0 x1 x2 x3).1))⟩, ⟨(Rect.unit (s := S1x4x128) ![0, 0, 0] S1x1x128.size inb_S1x4x128_S1x1x128_0_0_0), (k0_pay31 (peaks (F := F) c i arg1 harg1 arg2 harg2 arg3 harg3 arg4 harg4 arg5 harg5 arg6 harg6 arg7 harg7 arg8 harg8 arg9 harg9 x0 x1 x2 x3).1)⟩] _ _) $$ H6; iintro H6
  iapply (load_store c E arg6 (⟨(⟨![3, 0], S120x128.size, ![4, 1], inb_S480x128_S120x128_3_0_s_4_1⟩ : LoadRect S480x128), spos_4_1⟩ : Rect S480x128) (k0_pay6 (k0_pay30 (peaks (F := F) c i arg1 harg1 arg2 harg2 arg3 harg3 arg4 harg4 arg5 harg5 arg6 harg6 arg7 harg7 arg8 harg8 arg9 harg9 x0 x1 x2 x3).2)) _ _ _ f5 [⟨(⟨(⟨![2, 0], S120x128.size, ![4, 1], inb_S480x128_S120x128_2_0_s_4_1⟩ : LoadRect S480x128), spos_4_1⟩ : Rect S480x128), (k0_pay4 (k0_pay29 (peaks (F := F) c i arg1 harg1 arg2 harg2 arg3 harg3 arg4 harg4 arg5 harg5 arg6 harg6 arg7 harg7 arg8 harg8 arg9 harg9 x0 x1 x2 x3).2))⟩, ⟨(⟨(⟨![1, 0], S120x128.size, ![4, 1], inb_S480x128_S120x128_1_0_s_4_1⟩ : LoadRect S480x128), spos_4_1⟩ : Rect S480x128), (k0_pay2 (k0_pay27 (peaks (F := F) c i arg1 harg1 arg2 harg2 arg3 harg3 arg4 harg4 arg5 harg5 arg6 harg6 arg7 harg7 arg8 harg8 arg9 harg9 x0 x1 x2 x3).1))⟩, ⟨(⟨(⟨![0, 0], S120x128.size, ![4, 1], inb_S480x128_S120x128_0_0_s_4_1⟩ : LoadRect S480x128), spos_4_1⟩ : Rect S480x128), (k0_pay32 (peaks (F := F) c i arg1 harg1 arg2 harg2 arg3 harg3 arg4 harg4 arg5 harg5 arg6 harg6 arg7 harg7 arg8 harg8 arg9 harg9 x0 x1 x2 x3).1)⟩] _ _) $$ H5; iintro H5
  iapply (Scf.wp_for_bind frame (wpE (defs₀ (F := F)) Variants.none (c : Thread nD τ) none) E k0_t3_loop.lb k0_t3_loop.ub k0_t3_loop.st k0_t3_ok _ _
    (inv_k0_t3 (F := F) Variants.none c none i arg1 harg1 arg2 harg2 arg3 harg3 arg4 harg4 arg5 harg5 arg6 harg6 arg7 harg7 arg8 harg8 arg9 harg9 (k0_pay26 (peaks (F := F) c i arg1 harg1 arg2 harg2 arg3 harg3 arg4 harg4 arg5 harg5 arg6 harg6 arg7 harg7 arg8 harg8 arg9 harg9 x0 x1 x2 x3).1) (k0_pay27 (peaks (F := F) c i arg1 harg1 arg2 harg2 arg3 harg3 arg4 harg4 arg5 harg5 arg6 harg6 arg7 harg7 arg8 harg8 arg9 harg9 x0 x1 x2 x3).1) (k0_pay29 (peaks (F := F) c i arg1 harg1 arg2 harg2 arg3 harg3 arg4 harg4 arg5 harg5 arg6 harg6 arg7 harg7 arg8 harg8 arg9 harg9 x0 x1 x2 x3).2) (k0_pay30 (peaks (F := F) c i arg1 harg1 arg2 harg2 arg3 harg3 arg4 harg4 arg5 harg5 arg6 harg6 arg7 harg7 arg8 harg8 arg9 harg9 x0 x1 x2 x3).2) (harg9.unread (Zv (F := F) c i arg1 harg1 arg2 harg2 arg3 harg3 arg4 harg4 arg5 harg5 arg6 harg6 arg7 harg7 arg8 harg8 arg9 harg9 x0 x1 x2 x3)) f4)
    (loopInv_k0_t3 (F := F) Variants.none c none E i arg1 harg1 arg2 harg2 arg3 harg3 arg4 harg4 arg5 harg5 arg6 harg6 arg7 harg7 arg8 harg8 arg9 harg9 (k0_pay26 (peaks (F := F) c i arg1 harg1 arg2 harg2 arg3 harg3 arg4 harg4 arg5 harg5 arg6 harg6 arg7 harg7 arg8 harg8 arg9 harg9 x0 x1 x2 x3).1) (k0_pay27 (peaks (F := F) c i arg1 harg1 arg2 harg2 arg3 harg3 arg4 harg4 arg5 harg5 arg6 harg6 arg7 harg7 arg8 harg8 arg9 harg9 x0 x1 x2 x3).1) (k0_pay29 (peaks (F := F) c i arg1 harg1 arg2 harg2 arg3 harg3 arg4 harg4 arg5 harg5 arg6 harg6 arg7 harg7 arg8 harg8 arg9 harg9 x0 x1 x2 x3).2) (k0_pay30 (peaks (F := F) c i arg1 harg1 arg2 harg2 arg3 harg3 arg4 harg4 arg5 harg5 arg6 harg6 arg7 harg7 arg8 harg8 arg9 harg9 x0 x1 x2 x3).2) (harg9.unread (Zv (F := F) c i arg1 harg1 arg2 harg2 arg3 harg3 arg4 harg4 arg5 harg5 arg6 harg6 arg7 harg7 arg8 harg8 arg9 harg9 x0 x1 x2 x3)) f4).step) $$ [H8 H4]
  · isplitl [H8]; · iexact H8
    iexists _; isplitl [H4]; · iexact H4
    ipureintro; rfl
  iintro %_ ⟨H8, ⟨%g4, H4, %hg4⟩⟩
  subst hg4
  iapply (le_wp_ret frame (wpE (defs₀ (F := F)) Variants.none (c : Thread nD τ) none) E)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]; · iexists _; iexact H4
  isplitl [H5]; · iexists _; iexact H5
  isplitl [H6]; · iexists _; iexact H6
  isplitl [H7]
  · iexists _, (harg8.unread (T (F := F) Variants.none c none i arg1 harg1 arg2 harg2 arg3 harg3 arg4 harg4 arg5 harg5 arg6 harg6 arg7 harg7 arg8 harg8 arg9 harg9 (harg1.unread x0) (harg2.unread x1) (harg3.unread x2))); isplitr; · ipureintro; rfl
    iexact H7
  iexists _, (harg9.unread (Zv (F := F) c i arg1 harg1 arg2 harg2 arg3 harg3 arg4 harg4 arg5 harg5 arg6 harg6 arg7 harg7 arg8 harg8 arg9 harg9 x0 x1 x2 x3)); isplitr; · ipureintro; rfl
  iexact H8

end Cert.Rotate.Gen

end
-- ==== Proof.RotateFrame.lean ====
module

public import proofs.«01_k».proof.Proof.RotateRun
public import proofs.«01_k».proof.Proof.Gen.Rotate.Frame
public import Idealize.ShloMosaic.Lib.Claim
public import Idealize.ShloMosaic.Lib.Pipeline.FrameBody
public import Idealize.ShloMosaic.Lib.Ring
public import Idealize.ShloMosaic.Lib.WordCmp

@[expose] public section

set_option maxRecDepth 16384

noncomputable section

namespace Cert.Rotate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The pieces of the codes tile their block, -/
theorem L4_cover (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (x0 x1 x2 : Vec F S1x60x160x128 .bf16) (x3 : Vec F S240x240 .bf16) (y : S480x7680.Idx) : ∃ pc ∈ L4 (F := F) c i arg1 harg1 arg2 harg2 arg3 harg3 arg4 harg4 arg5 harg5 arg6 harg6 arg7 harg7 arg8 harg8 arg9 harg9 x0 x1 x2 x3, y ∈ pc.1.set :=
  View.cover_of_tiledL (L4 (F := F) c i arg1 harg1 arg2 harg2 arg3 harg3 arg4 harg4 arg5 harg5 arg6 harg6 arg7 harg7 arg8 harg8 arg9 harg9 x0 x1 x2 x3) S480x128.size (by sl_kernel_rfl) y

/-- the scales' too, -/
theorem L6_cover (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (x0 x1 x2 : Vec F S1x60x160x128 .bf16) (x3 : Vec F S240x240 .bf16) (y : S1x4x128.Idx) : ∃ pc ∈ L6 (F := F) c i arg1 harg1 arg2 harg2 arg3 harg3 arg4 harg4 arg5 harg5 arg6 harg6 arg7 harg7 arg8 harg8 arg9 harg9 x0 x1 x2 x3, y ∈ pc.1.set :=
  View.cover_of_tiledL (L6 (F := F) c i arg1 harg1 arg2 harg2 arg3 harg3 arg4 harg4 arg5 harg5 arg6 harg6 arg7 harg7 arg8 harg8 arg9 harg9 x0 x1 x2 x3) S1x1x128.size (by sl_kernel_rfl) y

/-- and a row of the spread scales is on the strided piece of its remainder by four. -/
theorem L5_cover (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x128 .i32) (harg8 : arg8.IsWhole) (arg9 : Memref sig .tc .vmem S2x7680x256 .f32) (harg9 : arg9.IsWhole) (x0 x1 x2 : Vec F S1x60x160x128 .bf16) (x3 : Vec F S240x240 .bf16) (y : S480x128.Idx) : ∃ pc ∈ L5 (F := F) c i arg1 harg1 arg2 harg2 arg3 harg3 arg4 harg4 arg5 harg5 arg6 harg6 arg7 harg7 arg8 harg8 arg9 harg9 x0 x1 x2 x3, y ∈ pc.1.set := by
  have hy0 : (y 0).val < 480 := (y 0).isLt
  have hy1 : (y 1).val < 128 := (y 1).isLt
  have key : ∀ (q : ℕ) (hi) (hp : ∀ ax, 0 < _), (y 0).val % 4 = q →
      y ∈ (⟨(⟨![q, 0], S120x128.size, ![4, 1], hi⟩ : LoadRect S480x128), hp⟩ : Rect S480x128).set := by
    intro q hi hp hq
    refine (LoadRect.mem_set _).mpr fun ax => ?_
    fin_cases ax
    · exact ⟨(y 0).val / 4, by show _ < 120; omega, by show (y 0).val = q + 4 * _; omega⟩
    · exact ⟨(y 1).val, hy1, by show (y 1).val = 0 + 1 * _; omega⟩
  have h4 : (y 0).val % 4 = 3 ∨ (y 0).val % 4 = 2 ∨ (y 0).val % 4 = 1 ∨ (y 0).val % 4 = 0 := by omega
  rcases h4 with h | h | h | h
  · exact ⟨_, .head _, key _ _ _ h⟩
  · exact ⟨_, .tail _ (.head _), key _ _ _ h⟩
  · exact ⟨_, .tail _ (.tail _ (.head _)), key _ _ _ h⟩
  · exact ⟨_, .tail _ (.tail _ (.tail _ (.head _))), key _ _ _ h⟩

abbrev ms0_0 (t : Fin cfg0.N) : Memref sig .tc .vmem S1x60x160x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x60x160x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x60x160x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S240x240 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S480x7680 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S480x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x128 .f32 := win0_6.stage (cfg0.slots t 6)
abbrev hs0_6 (t : Fin cfg0.N) : (ms0_6 t).IsWhole := hstage0_6 ((cfg0.slots t 6).cast nbuf0_6)
abbrev scM0_0 : Memref sig .tc .vmem S2x7680x128 .i32 := Memref.whole cc0_scratch0
abbrev scM0_1 : Memref sig .tc .vmem S2x7680x256 .f32 := Memref.whole cc0_scratch1

/-- The invariant with the scratch as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

variable (m : (ℓ : Loc nD τ sig) → Buf (Elt F) ℓ) (ρ : Dev nD → PrngReg)

/-- The codes' block after the body at a point, -/
def out4 (c : Dev nD) (t : Fin cfg0.N) : Vec F S480x7680 .i8 :=
  (ms0_4 t).view.read (Elt F) ((ms0_4 t).view.writes (Elt F) (ms0_4 t).view.junk (L4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t)))
/-- the spread scales' -/
def out5 (c : Dev nD) (t : Fin cfg0.N) : Vec F S480x128 .f32 :=
  (ms0_5 t).view.read (Elt F) ((ms0_5 t).view.writes (Elt F) (ms0_5 t).view.junk (L5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t)))
/-- and the scales'. -/
def out6 (c : Dev nD) (t : Fin cfg0.N) : Vec F S1x4x128 .f32 :=
  (ms0_6 t).view.read (Elt F) ((ms0_6 t).view.writes (Elt F) (ms0_6 t).view.junk (L6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t)))

/-- The proof data: each input's buffer at its block, each output's at what the body writes; the three windows of one array share it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
    | ⟨6, _⟩ => out6 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6]
  rw [show (dats m 0 c).Φ t.succ = Pipeline.ΦA spec0 c from rfl, show (dats m 0 c).Φ t.castSucc = Pipeline.ΦA spec0 c from rfl, PhiA0_eq]
  unfold out4 out5 out6
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (kernelRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, ⟨%e4, H4⟩, ⟨%e5, H5⟩, ⟨%e6, H6⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (L4_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t))
  isplitl [H5]
  · unfold owns; iexists _; isplitr
    swap; · iexact H5
    ipureintro; exact View.read_writes_of_cover _ _ _ _ _ (L5_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t))
  unfold owns; iexists _; isplitr
  swap; · iexact H6
  ipureintro; exact View.read_writes_of_cover _ _ _ _ _ (L6_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run, with every counter at zero at the end. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Rotate.Gen

end
-- ==== Proof.RotateIdealLoop.lean ====
module

public import proofs.«01_k».proof.Proof.Gen.RotateIdeal.Loops
public import proofs.«01_k».proof.Proof.Gen.RotateIdeal.Frame
public import Idealize.ShloMosaic.Lib.WholeRead
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.RotateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- What one trip of the transposition loop holds: the three pieces of the input at their contents and the scratch it fills. -/
abbrev TripRes (c : Dev nD) (arg1 arg2 arg3 : Memref sig .tc .vmem S1x60x160x128 .bf16) (arg8 : Memref sig .tc .vmem S2x7680x2x128 .bf16) (X1 : BufTy.Contents (Elt F) arg1.view.ty) (X2 : BufTy.Contents (Elt F) arg2.view.ty) (X3 : BufTy.Contents (Elt F) arg3.view.ty) (f : BufTy.Contents (Elt F) arg8.view.ty) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} f))

/-- One trip of the transposition loop, at a symbolic trip: the two pieces it stores are the run's own finds. -/
def trip_k0_t1 (𝒱 : Variants) (c : Dev nD) (bd : Option 𝒱.V) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) (k : Fin k0_t1_loop.trips) :
    { L : List (View.Piece (Elt F) S2x7680x2x128 .bf16) // ∀ (E : Set ℕ) (f : BufTy.Contents (Elt F) arg8.view.ty),
      TripRes (F := F) c arg1 arg2 arg3 arg8 X1 X2 X3 f
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 k PUnit.unit)
          (fun _ => TripRes (F := F) c arg1 arg2 arg3 arg8 X1 X2 X3 (arg8.view.writes (Elt F) f L)) } := by
  have hk : k.val < 60 := Nat.lt_of_lt_of_le k.isLt k0_t1_abs.2.1
  refine ⟨?_, fun E f => ?run⟩
  case run =>
    unfold k0_t1_body
    simp only [k0_part1_eq_skeleton]
    iintro ⟨H0, H1, H2, HW⟩
    sl_exec_parts
    sl_step
    sl_close

/-- The pieces trip `k` stores. -/
abbrev tripL (𝒱 : Variants) (c : Dev nD) (bd : Option 𝒱.V) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) (k : Fin k0_t1_loop.trips) : List (View.Piece (Elt F) S2x7680x2x128 .bf16) :=
  (trip_k0_t1 (F := F) 𝒱 c bd i arg1 harg1 arg2 harg2 arg3 harg3 arg4 harg4 arg5 harg5 arg6 harg6 arg7 harg7 arg8 harg8 arg9 harg9 X1 X2 X3 k).1

theorem trips_t1 : k0_t1_loop.trips = 60 := by decide

/-- The trip that writes row `y`: its row number modulo the 60 heads. -/
abbrev trip (y : S2x7680x2x128.Idx) : Fin k0_t1_loop.trips := ⟨(y 1).val % 60, by rw [trips_t1]; exact Nat.mod_lt _ (by decide)⟩

/-- What the scratch holds at `y` after the loop: what that trip's pieces leave there. -/
def T (𝒱 : Variants) (c : Dev nD) (bd : Option 𝒱.V) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) : Vec F S2x7680x2x128 .bf16 := fun y =>
  arg8.view.read (Elt F) (arg8.view.writes (Elt F) arg8.view.junk (tripL (F := F) 𝒱 c bd i arg1 harg1 arg2 harg2 arg3 harg3 arg4 harg4 arg5 harg5 arg6 harg6 arg7 harg7 arg8 harg8 arg9 harg9 X1 X2 X3 (trip y))) y

/-- A row some piece of trip `k` holds is one of its rows. -/
theorem trip_mem (𝒱 : Variants) (c : Dev nD) (bd : Option 𝒱.V) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) (k : Fin k0_t1_loop.trips) (y : S2x7680x2x128.Idx)
    (p : View.Piece (Elt F) S2x7680x2x128 .bf16) (hp : p ∈ tripL (F := F) 𝒱 c bd i arg1 harg1 arg2 harg2 arg3 harg3 arg4 harg4 arg5 harg5 arg6 harg6 arg7 harg7 arg8 harg8 arg9 harg9 X1 X2 X3 k) (hy : y ∈ p.1.set) : (y 1).val % 60 = k.val := by
  have hk : k.val < 60 := Nat.lt_of_lt_of_le k.isLt k0_t1_abs.2.1
  simp only [tripL, trip_k0_t1, List.mem_cons, List.not_mem_nil, or_false] at hp
  rcases hp with rfl | rfl
  all_goals
    obtain ⟨j, hj, h⟩ := (LoadRect.mem_set _).mp hy 1
    simp only [k0_off4_eq, k0_off2_eq] at h
    have h' : (y 1).val = k.val + 60 * j := h
    omega

/-- And each of its rows is in one of its pieces. -/
theorem trip_cover (𝒱 : Variants) (c : Dev nD) (bd : Option 𝒱.V) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) (k : Fin k0_t1_loop.trips) (y : S2x7680x2x128.Idx)
    (h : (y 1).val % 60 = k.val) : ∃ p ∈ tripL (F := F) 𝒱 c bd i arg1 harg1 arg2 harg2 arg3 harg3 arg4 harg4 arg5 harg5 arg6 harg6 arg7 harg7 arg8 harg8 arg9 harg9 X1 X2 X3 k, y ∈ p.1.set := by
  have hk : k.val < 60 := Nat.lt_of_lt_of_le k.isLt k0_t1_abs.2.1
  have h0 : (y 0).val < 2 := (y 0).isLt
  have h1 : (y 1).val < 7680 := (y 1).isLt
  have h2 : (y 2).val < 2 := (y 2).isLt
  have h3 : (y 3).val < 128 := (y 3).isLt
  simp only [tripL, trip_k0_t1, List.mem_cons, List.not_mem_nil, or_false]
  rcases (by omega : (y 0).val = 1 ∨ (y 0).val = 0) with e | e
  · refine ⟨_, .inl rfl, (LoadRect.mem_set _).mpr fun ax => ?_⟩
    simp only [k0_off4_eq]
    fin_cases ax
    · exact ⟨0, by decide, e⟩
    · exact ⟨(y 1).val / 60, (by omega : (y 1).val / 60 < 128), (by omega : (y 1).val = k.val + 60 * ((y 1).val / 60))⟩
    · exact ⟨(y 2).val, h2, (by omega : (y 2).val = 0 + 1 * (y 2).val)⟩
    · exact ⟨(y 3).val, h3, (by omega : (y 3).val = 0 + 1 * (y 3).val)⟩
  · refine ⟨_, .inr rfl, (LoadRect.mem_set _).mpr fun ax => ?_⟩
    simp only [k0_off2_eq]
    fin_cases ax
    · exact ⟨0, by decide, e⟩
    · exact ⟨(y 1).val / 60, (by omega : (y 1).val / 60 < 128), (by omega : (y 1).val = k.val + 60 * ((y 1).val / 60))⟩
    · exact ⟨(y 2).val, h2, (by omega : (y 2).val = 0 + 1 * (y 2).val)⟩
    · exact ⟨(y 3).val, h3, (by omega : (y 3).val = 0 + 1 * (y 3).val)⟩

/-- One trip more of the rows are as the loop leaves them. -/
theorem trip_step (𝒱 : Variants) (c : Dev nD) (bd : Option 𝒱.V) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) (k : Fin k0_t1_loop.trips) (f : BufTy.Contents (Elt F) arg8.view.ty)
    (h : ∀ y : S2x7680x2x128.Idx, (y 1).val % 60 < k.val → arg8.view.read (Elt F) f y = T (F := F) 𝒱 c bd i arg1 harg1 arg2 harg2 arg3 harg3 arg4 harg4 arg5 harg5 arg6 harg6 arg7 harg7 arg8 harg8 arg9 harg9 X1 X2 X3 y) (y : S2x7680x2x128.Idx) (hy : (y 1).val % 60 < k.val + 1) :
    arg8.view.read (Elt F) (arg8.view.writes (Elt F) f (tripL (F := F) 𝒱 c bd i arg1 harg1 arg2 harg2 arg3 harg3 arg4 harg4 arg5 harg5 arg6 harg6 arg7 harg7 arg8 harg8 arg9 harg9 X1 X2 X3 k)) y = T (F := F) 𝒱 c bd i arg1 harg1 arg2 harg2 arg3 harg3 arg4 harg4 arg5 harg5 arg6 harg6 arg7 harg7 arg8 harg8 arg9 harg9 X1 X2 X3 y := by
  by_cases e : (y 1).val % 60 = k.val
  · have ek : trip y = k := Fin.ext e
    unfold T
    rw [ek]
    exact View.read_writes_apply_eq _ _ _ _ y _ (trip_cover (F := F) 𝒱 c bd i arg1 harg1 arg2 harg2 arg3 harg3 arg4 harg4 arg5 harg5 arg6 harg6 arg7 harg7 arg8 harg8 arg9 harg9 X1 X2 X3 k y e)
  · rw [View.read_writes_apply_of_forall_not_mem _ _ y _ (fun p hp hm => e (trip_mem (F := F) 𝒱 c bd i arg1 harg1 arg2 harg2 arg3 harg3 arg4 harg4 arg5 harg5 arg6 harg6 arg7 harg7 arg8 harg8 arg9 harg9 X1 X2 X3 k y p hp hm))]
    exact h y (by omega)

/-- The loop's invariant before trip `k`: the inputs are held, and the scratch's rows of the heads below `k` are as the loop leaves them. -/
abbrev inv_k0_t1 (𝒱 : Variants) (c : Dev nD) (bd : Option 𝒱.V) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) (k : ℕ) (_u : PUnit) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
    ∗ (∃ f, (arg8.view.loc (c : Thread nD τ) ↦[arg8.view.set]{fullShare} f) ∗ ⌜∀ y : S2x7680x2x128.Idx, (y 1).val % 60 < k → arg8.view.read (Elt F) f y = T (F := F) 𝒱 c bd i arg1 harg1 arg2 harg2 arg3 harg3 arg4 harg4 arg5 harg5 arg6 harg6 arg7 harg7 arg8 harg8 arg9 harg9 X1 X2 X3 y⌝))

set_option warn.classDefReducibility false in
/-- The transposition loop by its invariant. -/
@[sl_loop] def loopInv_k0_t1 (𝒱 : Variants) (c : Dev nD) (bd : Option 𝒱.V) (E : Set ℕ) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (X1 : BufTy.Contents (Elt F) arg1.view.ty) (X2 : BufTy.Contents (Elt F) arg2.view.ty) (X3 : BufTy.Contents (Elt F) arg3.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 where
  inv := inv_k0_t1 (F := F) 𝒱 c bd i arg1 harg1 arg2 harg2 arg3 harg3 arg4 harg4 arg5 harg5 arg6 harg6 arg7 harg7 arg8 harg8 arg9 harg9 X1 X2 X3
  step k acc := by
    iintro ⟨H0, H1, H2, ⟨%f, HW, %h⟩⟩
    iapply (wp_wand_r Idealize.ShloMosaic.frame (wpE (defs₀ (F := F)) 𝒱 (c : Thread nD τ) bd) E)
    isplitl [H0 H1 H2 HW]
    · iapply ((trip_k0_t1 (F := F) 𝒱 c bd i arg1 harg1 arg2 harg2 arg3 harg3 arg4 harg4 arg5 harg5 arg6 harg6 arg7 harg7 arg8 harg8 arg9 harg9 X1 X2 X3 k).2 E f)
      isplitl [H0]; · iexact H0
      isplitl [H1]; · iexact H1
      isplitl [H2]; · iexact H2
      iexact HW
    · iintro %_ ⟨H0, H1, H2, HW⟩
      isplitl [H0]; · iexact H0
      isplitl [H1]; · iexact H1
      isplitl [H2]; · iexact H2
      iexists _; isplitl [HW]; · iexact HW
      ipureintro; exact trip_step (F := F) 𝒱 c bd i arg1 harg1 arg2 harg2 arg3 harg3 arg4 harg4 arg5 harg5 arg6 harg6 arg7 harg7 arg8 harg8 arg9 harg9 X1 X2 X3 k f h

end Cert.RotateIdeal.Gen

end
-- ==== Proof.RotateIdealRun.lean ====
module

public import proofs.«01_k».proof.Proof.RotateIdealLoop
public import Idealize.ShloMosaic.Lib.Pipeline.FrameBody
public import Idealize.ShloMosaic.Lib.Ring
public import Idealize.ShloMosaic.Lib.WordCmp

@[expose] public section

set_option maxRecDepth 16384

noncomputable section

namespace Cert.RotateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load whose value is not used, then a store through the same rectangle: the store's piece is consed on. -/
theorem load_store {cs : CoreSpace} {s : Shape} {e : EltTy} {α : Type} (c : Dev nD) (E : Set ℕ) (M : Memref sig .tc cs s e) (r : Rect s) (w : r.shape.Idx → Elt F e)
    (hl : M.view.LoadsAt r.toLoadRect) (hx : (M.access r).Stores Finset.univ) (hm : Finset.univ = Finset.univ ∨ ∀ ax, r.stride ax = 1)
    (f : BufTy.Contents (Elt F) M.view.ty) (L : List (View.Piece (Elt F) s e)) (k : PUnit → Prog (TpuEff nD τ sig (Elt F) Λ₀ .tc) α) (K : α → sProp 𝕄) :
    (M.view.loc (c : Thread nD τ) ↦[M.view.set]{fullShare} M.view.writes (Elt F) f L)
      ⊢ iprop(((M.view.loc (c : Thread nD τ) ↦[M.view.set]{fullShare} M.view.writes (Elt F) f (⟨r, w⟩ :: L)) -∗ wp frame (wpE (defs₀ (F := F)) Variants.none (c : Thread nD τ) none) E (k ⟨⟩) K)
        -∗ wp frame (wpE (defs₀ (F := F)) Variants.none (c : Thread nD τ) none) E (Prog.lift (.load M r.toLoadRect hl) >>= fun _ => Prog.lift (.store M r w Finset.univ hx hm) >>= k) K) := by
  show _ ⊢ iprop(_ -∗ wp frame (wpE (defs₀ (F := F)) Variants.none (c : Thread nD τ) none) E (.op (.load M r.toLoadRect hl) fun _ => .op (.store M r w Finset.univ hx hm) k) K)
  iintro H Hk
  iapply (wp_load_rect Variants.none (c : Thread nD τ) none E (m := M) (r := r) (by exact (M.view.set_slice_subset r))) $$ H; iintro H
  iapply (wp_store_writes Variants.none (c : Thread nD τ) none E (m := M) (r := r) (by exact (M.view.set_slice_subset r))) $$ H; iintro H
  iapply Hk; iexact H

/-- A load whose value is not used, then a store through the same rectangle: the first piece. -/
theorem load_store₀ {cs : CoreSpace} {s : Shape} {e : EltTy} {α : Type} (c : Dev nD) (E : Set ℕ) (M : Memref sig .tc cs s e) (r : Rect s) (w : r.shape.Idx → Elt F e)
    (hl : M.view.LoadsAt r.toLoadRect) (hx : (M.access r).Stores Finset.univ) (hm : Finset.univ = Finset.univ ∨ ∀ ax, r.stride ax = 1)
    (f : BufTy.Contents (Elt F) M.view.ty) (k : PUnit → Prog (TpuEff nD τ sig (Elt F) Λ₀ .tc) α) (K : α → sProp 𝕄) :
    (M.view.loc (c : Thread nD τ) ↦[M.view.set]{fullShare} f)
      ⊢ iprop(((M.view.loc (c : Thread nD τ) ↦[M.view.set]{fullShare} M.view.writes (Elt F) f [⟨r, w⟩]) -∗ wp frame (wpE (defs₀ (F := F)) Variants.none (c : Thread nD τ) none) E (k ⟨⟩) K)
        -∗ wp frame (wpE (defs₀ (F := F)) Variants.none (c : Thread nD τ) none) E (Prog.lift (.load M r.toLoadRect hl) >>= fun _ => Prog.lift (.store M r w Finset.univ hx hm) >>= k) K) :=
  load_store (F := F) c E M r w hl hx hm f [] k K

/-- What the second loop carries and stores in all, from the transposed scratch. -/
abbrev st2 (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec F S1x60x160x128 .bf16) (x3 : Vec F S240x240 .bf16) :=
  st_k0_t2 (F := F) Variants.none c none i arg1 harg1 arg2 harg2 arg3 harg3 arg4 harg4 arg5 harg5 arg6 harg6 arg7 harg7 arg8 harg8 arg9 harg9 (Scalar.ofBits .f32 0x3E0432A5#32) (harg4.unread x3) (harg8.unread (T (F := F) Variants.none c none i arg1 harg1 arg2 harg2 arg3 harg3 arg4 harg4 arg5 harg5 arg6 harg6 arg7 harg7 arg8 harg8 arg9 harg9 (harg1.unread x0) (harg2.unread x1) (harg3.unread x2))) (k0_pay18 (F := F), k0_pay18 (F := F)) k0_t2_loop.trips

/-- The peaks the second loop carries out. -/
abbrev peaks (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec F S1x60x160x128 .bf16) (x3 : Vec F S240x240 .bf16) : FVec F S8x256 .f32 × FVec F S8x256 .f32 := (st2 (F := F) c i arg1 harg1 arg2 harg2 arg3 harg3 arg4 harg4 arg5 harg5 arg6 harg6 arg7 harg7 arg8 harg8 arg9 harg9 x0 x1 x2 x3).1

/-- Its pieces tile the rotated scratch. -/
theorem st2_cover (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec F S1x60x160x128 .bf16) (x3 : Vec F S240x240 .bf16) (y : S2x7680x256.Idx) :
    ∃ pc ∈ (st2 (F := F) c i arg1 harg1 arg2 harg2 arg3 harg3 arg4 harg4 arg5 harg5 arg6 harg6 arg7 harg7 arg8 harg8 arg9 harg9 x0 x1 x2 x3).2, y ∈ pc.1.set :=
  View.cover_of_tiledL (st2 (F := F) c i arg1 harg1 arg2 harg2 arg3 harg3 arg4 harg4 arg5 harg5 arg6 harg6 arg7 harg7 arg8 harg8 arg9 harg9 x0 x1 x2 x3).2 S1x240x256.size (by sl_kernel_rfl) y

/-- The rotated rows in the second scratch. -/
def Zv (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec F S1x60x160x128 .bf16) (x3 : Vec F S240x240 .bf16) : Vec F S2x7680x256 .f32 :=
  arg9.view.read (Elt F) (arg9.view.writes (Elt F) arg9.view.junk (st2 (F := F) c i arg1 harg1 arg2 harg2 arg3 harg3 arg4 harg4 arg5 harg5 arg6 harg6 arg7 harg7 arg8 harg8 arg9 harg9 x0 x1 x2 x3).2)

/-- The pieces left in the codes' block, -/
abbrev L4 (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec F S1x60x160x128 .bf16) (x3 : Vec F S240x240 .bf16) : List (View.Piece (Elt F) S480x7680 .i8) :=
  pb_k0_t3 (F := F) Variants.none c none i arg1 harg1 arg2 harg2 arg3 harg3 arg4 harg4 arg5 harg5 arg6 harg6 arg7 harg7 arg8 harg8 arg9 harg9 (k0_pay23 (peaks (F := F) c i arg1 harg1 arg2 harg2 arg3 harg3 arg4 harg4 arg5 harg5 arg6 harg6 arg7 harg7 arg8 harg8 arg9 harg9 x0 x1 x2 x3).1) (k0_pay24 (peaks (F := F) c i arg1 harg1 arg2 harg2 arg3 harg3 arg4 harg4 arg5 harg5 arg6 harg6 arg7 harg7 arg8 harg8 arg9 harg9 x0 x1 x2 x3).1) (k0_pay26 (peaks (F := F) c i arg1 harg1 arg2 harg2 arg3 harg3 arg4 harg4 arg5 harg5 arg6 harg6 arg7 harg7 arg8 harg8 arg9 harg9 x0 x1 x2 x3).2) (k0_pay27 (peaks (F := F) c i arg1 harg1 arg2 harg2 arg3 harg3 arg4 harg4 arg5 harg5 arg6 harg6 arg7 harg7 arg8 harg8 arg9 harg9 x0 x1 x2 x3).2) (harg9.unread (Zv (F := F) c i arg1 harg1 arg2 harg2 arg3 harg3 arg4 harg4 arg5 harg5 arg6 harg6 arg7 harg7 arg8 harg8 arg9 harg9 x0 x1 x2 x3)) k0_t3_loop.trips
/-- in the spread scales' block, -/
abbrev L5 (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec F S1x60x160x128 .bf16) (x3 : Vec F S240x240 .bf16) : List (View.Piece (Elt F) S480x128 .f32) :=
  [⟨(⟨(⟨![3, 0], S120x128.size, ![4, 1], inb_S480x128_S120x128_3_0_s_4_1⟩ : LoadRect S480x128), spos_4_1⟩ : Rect S480x128), (k0_pay6 (k0_pay27 (peaks (F := F) c i arg1 harg1 arg2 harg2 arg3 harg3 arg4 harg4 arg5 harg5 arg6 harg6 arg7 harg7 arg8 harg8 arg9 harg9 x0 x1 x2 x3).2))⟩, ⟨(⟨(⟨![2, 0], S120x128.size, ![4, 1], inb_S480x128_S120x128_2_0_s_4_1⟩ : LoadRect S480x128), spos_4_1⟩ : Rect S480x128), (k0_pay4 (k0_pay26 (peaks (F := F) c i arg1 harg1 arg2 harg2 arg3 harg3 arg4 harg4 arg5 harg5 arg6 harg6 arg7 harg7 arg8 harg8 arg9 harg9 x0 x1 x2 x3).2))⟩, ⟨(⟨(⟨![1, 0], S120x128.size, ![4, 1], inb_S480x128_S120x128_1_0_s_4_1⟩ : LoadRect S480x128), spos_4_1⟩ : Rect S480x128), (k0_pay2 (k0_pay24 (peaks (F := F) c i arg1 harg1 arg2 harg2 arg3 harg3 arg4 harg4 arg5 harg5 arg6 harg6 arg7 harg7 arg8 harg8 arg9 harg9 x0 x1 x2 x3).1))⟩, ⟨(⟨(⟨![0, 0], S120x128.size, ![4, 1], inb_S480x128_S120x128_0_0_s_4_1⟩ : LoadRect S480x128), spos_4_1⟩ : Rect S480x128), (k0_pay29 (peaks (F := F) c i arg1 harg1 arg2 harg2 arg3 harg3 arg4 harg4 arg5 harg5 arg6 harg6 arg7 harg7 arg8 harg8 arg9 harg9 x0 x1 x2 x3).1)⟩]
/-- and in the scales' block. -/
abbrev L6 (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec F S1x60x160x128 .bf16) (x3 : Vec F S240x240 .bf16) : List (View.Piece (Elt F) S1x4x128 .f32) :=
  [⟨(Rect.unit (s := S1x4x128) ![0, 3, 0] S1x1x128.size inb_S1x4x128_S1x1x128_0_3_0), (k0_pay5 (k0_pay27 (peaks (F := F) c i arg1 harg1 arg2 harg2 arg3 harg3 arg4 harg4 arg5 harg5 arg6 harg6 arg7 harg7 arg8 harg8 arg9 harg9 x0 x1 x2 x3).2))⟩, ⟨(Rect.unit (s := S1x4x128) ![0, 2, 0] S1x1x128.size inb_S1x4x128_S1x1x128_0_2_0), (k0_pay3 (k0_pay26 (peaks (F := F) c i arg1 harg1 arg2 harg2 arg3 harg3 arg4 harg4 arg5 harg5 arg6 harg6 arg7 harg7 arg8 harg8 arg9 harg9 x0 x1 x2 x3).2))⟩, ⟨(Rect.unit (s := S1x4x128) ![0, 1, 0] S1x1x128.size inb_S1x4x128_S1x1x128_0_1_0), (k0_pay1 (k0_pay24 (peaks (F := F) c i arg1 harg1 arg2 harg2 arg3 harg3 arg4 harg4 arg5 harg5 arg6 harg6 arg7 harg7 arg8 harg8 arg9 harg9 x0 x1 x2 x3).1))⟩, ⟨(Rect.unit (s := S1x4x128) ![0, 0, 0] S1x1x128.size inb_S1x4x128_S1x1x128_0_0_0), (k0_pay28 (peaks (F := F) c i arg1 harg1 arg2 harg2 arg3 harg3 arg4 harg4 arg5 harg5 arg6 harg6 arg7 harg7 arg8 harg8 arg9 harg9 x0 x1 x2 x3).1)⟩]

set_option maxHeartbeats 4000000 in
/-- The body's run: from the inputs' blocks, the outputs and the scratch at anything, it leaves the inputs as they were and the outputs with their pieces written. -/
theorem kernelRun (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec F S1x60x160x128 .bf16) (x3 : Vec F S240x240 .bf16) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f (L4 (F := F) c i arg1 harg1 arg2 harg2 arg3 harg3 arg4 harg4 arg5 harg5 arg6 harg6 arg7 harg7 arg8 harg8 arg9 harg9 x0 x1 x2 x3)) ∗ (∃ f, arg6.view.loc (c : Thread nD τ) ↦[arg6.view.set]{fullShare} arg6.view.writes (Elt F) f (L5 (F := F) c i arg1 harg1 arg2 harg2 arg3 harg3 arg4 harg4 arg5 harg5 arg6 harg6 arg7 harg7 arg8 harg8 arg9 harg9 x0 x1 x2 x3)) ∗ (∃ f, arg7.view.loc (c : Thread nD τ) ↦[arg7.view.set]{fullShare} arg7.view.writes (Elt F) f (L6 (F := F) c i arg1 harg1 arg2 harg2 arg3 harg3 arg4 harg4 arg5 harg5 arg6 harg6 arg7 harg7 arg8 harg8 arg9 harg9 x0 x1 x2 x3)) ∗ (∃ d, owns (c : Thread nD τ) arg8 fullShare d) ∗ (∃ d, owns (c : Thread nD τ) arg9 fullShare d)) -∗ K ⟨⟩))
          ⊢ wp frame (wpE (defs₀ (F := F)) Variants.none (c : Thread nD τ) none) E (cc0_rotate_quant (F := F) i arg1 harg1 arg2 harg2 arg3 harg3 arg4 harg4 arg5 harg5 arg6 harg6 arg7 harg7 arg8 harg8 arg9 harg9) K := by
  rw [cc0_rotate_quant_eq_skeleton]; unfold cc0_rotate_quant_skel
  rw [k0_part4_eq_skeleton]; unfold k0_part4_skel
  simp only [LawfulMonad.bind_assoc, LawfulMonad.pure_bind]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  iapply (Scf.wp_for_bind frame (wpE (defs₀ (F := F)) Variants.none (c : Thread nD τ) none) E k0_t1_loop.lb k0_t1_loop.ub k0_t1_loop.st k0_t1_ok _ _
    (inv_k0_t1 (F := F) Variants.none c none i arg1 harg1 arg2 harg2 arg3 harg3 arg4 harg4 arg5 harg5 arg6 harg6 arg7 harg7 arg8 harg8 arg9 harg9 (harg1.unread x0) (harg2.unread x1) (harg3.unread x2))
    (loopInv_k0_t1 (F := F) Variants.none c none E i arg1 harg1 arg2 harg2 arg3 harg3 arg4 harg4 arg5 harg5 arg6 harg6 arg7 harg7 arg8 harg8 arg9 harg9 (harg1.unread x0) (harg2.unread x1) (harg3.unread x2)).step) $$ [H0 H1 H2 H7]
  · isplitl [H0]; · iexact H0
    isplitl [H1]; · iexact H1
    isplitl [H2]; · iexact H2
    iexists _; isplitl [H7]; · iexact H7
    ipureintro; intro y hy; exact absurd hy (Nat.not_lt_zero _)
  iintro %_ ⟨H0, H1, H2, ⟨%f, H7, %hf⟩⟩
  obtain rfl : f = harg8.unread (T (F := F) Variants.none c none i arg1 harg1 arg2 harg2 arg3 harg3 arg4 harg4 arg5 harg5 arg6 harg6 arg7 harg7 arg8 harg8 arg9 harg9 (harg1.unread x0) (harg2.unread x1) (harg3.unread x2)) :=
    harg8.eq_unread (funext fun y => hf y (lt_of_lt_of_eq (Nat.mod_lt _ (by decide)) trips_t1.symm))
  iapply (Scf.wp_for_bind frame (wpE (defs₀ (F := F)) Variants.none (c : Thread nD τ) none) E k0_t2_loop.lb k0_t2_loop.ub k0_t2_loop.st k0_t2_ok _ _
    (inv_k0_t2 (F := F) Variants.none c none i arg1 harg1 arg2 harg2 arg3 harg3 arg4 harg4 arg5 harg5 arg6 harg6 arg7 harg7 arg8 harg8 arg9 harg9 (Scalar.ofBits .f32 0x3E0432A5#32) (harg4.unread x3) (harg8.unread (T (F := F) Variants.none c none i arg1 harg1 arg2 harg2 arg3 harg3 arg4 harg4 arg5 harg5 arg6 harg6 arg7 harg7 arg8 harg8 arg9 harg9 (harg1.unread x0) (harg2.unread x1) (harg3.unread x2))) f8 (k0_pay18 (F := F), k0_pay18 (F := F)))
    (loopInv_k0_t2 (F := F) Variants.none c none E i arg1 harg1 arg2 harg2 arg3 harg3 arg4 harg4 arg5 harg5 arg6 harg6 arg7 harg7 arg8 harg8 arg9 harg9 (Scalar.ofBits .f32 0x3E0432A5#32) (harg4.unread x3) (harg8.unread (T (F := F) Variants.none c none i arg1 harg1 arg2 harg2 arg3 harg3 arg4 harg4 arg5 harg5 arg6 harg6 arg7 harg7 arg8 harg8 arg9 harg9 (harg1.unread x0) (harg2.unread x1) (harg3.unread x2))) f8 (k0_pay18 (F := F), k0_pay18 (F := F))).step) $$ [H3 H7 H8]
  · isplitl [H3]; · iexact H3
    isplitl [H7]; · iexact H7
    isplitl [H8]
    · iexists _; isplitl [H8]; · iexact H8
      ipureintro; rfl
    ipureintro; rfl
  iintro %acc ⟨H3, H7, ⟨%g, H8, %hg⟩, %hacc⟩
  obtain rfl : g = harg9.unread (Zv (F := F) c i arg1 harg1 arg2 harg2 arg3 harg3 arg4 harg4 arg5 harg5 arg6 harg6 arg7 harg7 arg8 harg8 arg9 harg9 x0 x1 x2 x3) :=
    harg9.eq_unread (hg ▸ View.read_writes_of_cover _ _ _ _ _ (st2_cover (F := F) c i arg1 harg1 arg2 harg2 arg3 harg3 arg4 harg4 arg5 harg5 arg6 harg6 arg7 harg7 arg8 harg8 arg9 harg9 x0 x1 x2 x3))
  obtain rfl : acc = peaks (F := F) c i arg1 harg1 arg2 harg2 arg3 harg3 arg4 harg4 arg5 harg5 arg6 harg6 arg7 harg7 arg8 harg8 arg9 harg9 x0 x1 x2 x3 := hacc

  iapply (load_store₀ c E arg7 (Rect.unit (s := S1x4x128) ![0, 0, 0] S1x1x128.size inb_S1x4x128_S1x1x128_0_0_0) (k0_pay28 (peaks (F := F) c i arg1 harg1 arg2 harg2 arg3 harg3 arg4 harg4 arg5 harg5 arg6 harg6 arg7 harg7 arg8 harg8 arg9 harg9 x0 x1 x2 x3).1) _ _ _ f6  _ _) $$ H6; iintro H6
  iapply (load_store₀ c E arg6 (⟨(⟨![0, 0], S120x128.size, ![4, 1], inb_S480x128_S120x128_0_0_s_4_1⟩ : LoadRect S480x128), spos_4_1⟩ : Rect S480x128) (k0_pay29 (peaks (F := F) c i arg1 harg1 arg2 harg2 arg3 harg3 arg4 harg4 arg5 harg5 arg6 harg6 arg7 harg7 arg8 harg8 arg9 harg9 x0 x1 x2 x3).1) _ _ _ f5  _ _) $$ H5; iintro H5
  iapply (load_store c E arg7 (Rect.unit (s := S1x4x128) ![0, 1, 0] S1x1x128.size inb_S1x4x128_S1x1x128_0_1_0) (k0_pay1 (k0_pay24 (peaks (F := F) c i arg1 harg1 arg2 harg2 arg3 harg3 arg4 harg4 arg5 harg5 arg6 harg6 arg7 harg7 arg8 harg8 arg9 harg9 x0 x1 x2 x3).1)) _ _ _ f6 [⟨(Rect.unit (s := S1x4x128) ![0, 0, 0] S1x1x128.size inb_S1x4x128_S1x1x128_0_0_0), (k0_pay28 (peaks (F := F) c i arg1 harg1 arg2 harg2 arg3 harg3 arg4 harg4 arg5 harg5 arg6 harg6 arg7 harg7 arg8 harg8 arg9 harg9 x0 x1 x2 x3).1)⟩] _ _) $$ H6; iintro H6
  iapply (load_store c E arg6 (⟨(⟨![1, 0], S120x128.size, ![4, 1], inb_S480x128_S120x128_1_0_s_4_1⟩ : LoadRect S480x128), spos_4_1⟩ : Rect S480x128) (k0_pay2 (k0_pay24 (peaks (F := F) c i arg1 harg1 arg2 harg2 arg3 harg3 arg4 harg4 arg5 harg5 arg6 harg6 arg7 harg7 arg8 harg8 arg9 harg9 x0 x1 x2 x3).1)) _ _ _ f5 [⟨(⟨(⟨![0, 0], S120x128.size, ![4, 1], inb_S480x128_S120x128_0_0_s_4_1⟩ : LoadRect S480x128), spos_4_1⟩ : Rect S480x128), (k0_pay29 (peaks (F := F) c i arg1 harg1 arg2 harg2 arg3 harg3 arg4 harg4 arg5 harg5 arg6 harg6 arg7 harg7 arg8 harg8 arg9 harg9 x0 x1 x2 x3).1)⟩] _ _) $$ H5; iintro H5
  iapply (load_store c E arg7 (Rect.unit (s := S1x4x128) ![0, 2, 0] S1x1x128.size inb_S1x4x128_S1x1x128_0_2_0) (k0_pay3 (k0_pay26 (peaks (F := F) c i arg1 harg1 arg2 harg2 arg3 harg3 arg4 harg4 arg5 harg5 arg6 harg6 arg7 harg7 arg8 harg8 arg9 harg9 x0 x1 x2 x3).2)) _ _ _ f6 [⟨(Rect.unit (s := S1x4x128) ![0, 1, 0] S1x1x128.size inb_S1x4x128_S1x1x128_0_1_0), (k0_pay1 (k0_pay24 (peaks (F := F) c i arg1 harg1 arg2 harg2 arg3 harg3 arg4 harg4 arg5 harg5 arg6 harg6 arg7 harg7 arg8 harg8 arg9 harg9 x0 x1 x2 x3).1))⟩, ⟨(Rect.unit (s := S1x4x128) ![0, 0, 0] S1x1x128.size inb_S1x4x128_S1x1x128_0_0_0), (k0_pay28 (peaks (F := F) c i arg1 harg1 arg2 harg2 arg3 harg3 arg4 harg4 arg5 harg5 arg6 harg6 arg7 harg7 arg8 harg8 arg9 harg9 x0 x1 x2 x3).1)⟩] _ _) $$ H6; iintro H6
  iapply (load_store c E arg6 (⟨(⟨![2, 0], S120x128.size, ![4, 1], inb_S480x128_S120x128_2_0_s_4_1⟩ : LoadRect S480x128), spos_4_1⟩ : Rect S480x128) (k0_pay4 (k0_pay26 (peaks (F := F) c i arg1 harg1 arg2 harg2 arg3 harg3 arg4 harg4 arg5 harg5 arg6 harg6 arg7 harg7 arg8 harg8 arg9 harg9 x0 x1 x2 x3).2)) _ _ _ f5 [⟨(⟨(⟨![1, 0], S120x128.size, ![4, 1], inb_S480x128_S120x128_1_0_s_4_1⟩ : LoadRect S480x128), spos_4_1⟩ : Rect S480x128), (k0_pay2 (k0_pay24 (peaks (F := F) c i arg1 harg1 arg2 harg2 arg3 harg3 arg4 harg4 arg5 harg5 arg6 harg6 arg7 harg7 arg8 harg8 arg9 harg9 x0 x1 x2 x3).1))⟩, ⟨(⟨(⟨![0, 0], S120x128.size, ![4, 1], inb_S480x128_S120x128_0_0_s_4_1⟩ : LoadRect S480x128), spos_4_1⟩ : Rect S480x128), (k0_pay29 (peaks (F := F) c i arg1 harg1 arg2 harg2 arg3 harg3 arg4 harg4 arg5 harg5 arg6 harg6 arg7 harg7 arg8 harg8 arg9 harg9 x0 x1 x2 x3).1)⟩] _ _) $$ H5; iintro H5
  iapply (load_store c E arg7 (Rect.unit (s := S1x4x128) ![0, 3, 0] S1x1x128.size inb_S1x4x128_S1x1x128_0_3_0) (k0_pay5 (k0_pay27 (peaks (F := F) c i arg1 harg1 arg2 harg2 arg3 harg3 arg4 harg4 arg5 harg5 arg6 harg6 arg7 harg7 arg8 harg8 arg9 harg9 x0 x1 x2 x3).2)) _ _ _ f6 [⟨(Rect.unit (s := S1x4x128) ![0, 2, 0] S1x1x128.size inb_S1x4x128_S1x1x128_0_2_0), (k0_pay3 (k0_pay26 (peaks (F := F) c i arg1 harg1 arg2 harg2 arg3 harg3 arg4 harg4 arg5 harg5 arg6 harg6 arg7 harg7 arg8 harg8 arg9 harg9 x0 x1 x2 x3).2))⟩, ⟨(Rect.unit (s := S1x4x128) ![0, 1, 0] S1x1x128.size inb_S1x4x128_S1x1x128_0_1_0), (k0_pay1 (k0_pay24 (peaks (F := F) c i arg1 harg1 arg2 harg2 arg3 harg3 arg4 harg4 arg5 harg5 arg6 harg6 arg7 harg7 arg8 harg8 arg9 harg9 x0 x1 x2 x3).1))⟩, ⟨(Rect.unit (s := S1x4x128) ![0, 0, 0] S1x1x128.size inb_S1x4x128_S1x1x128_0_0_0), (k0_pay28 (peaks (F := F) c i arg1 harg1 arg2 harg2 arg3 harg3 arg4 harg4 arg5 harg5 arg6 harg6 arg7 harg7 arg8 harg8 arg9 harg9 x0 x1 x2 x3).1)⟩] _ _) $$ H6; iintro H6
  iapply (load_store c E arg6 (⟨(⟨![3, 0], S120x128.size, ![4, 1], inb_S480x128_S120x128_3_0_s_4_1⟩ : LoadRect S480x128), spos_4_1⟩ : Rect S480x128) (k0_pay6 (k0_pay27 (peaks (F := F) c i arg1 harg1 arg2 harg2 arg3 harg3 arg4 harg4 arg5 harg5 arg6 harg6 arg7 harg7 arg8 harg8 arg9 harg9 x0 x1 x2 x3).2)) _ _ _ f5 [⟨(⟨(⟨![2, 0], S120x128.size, ![4, 1], inb_S480x128_S120x128_2_0_s_4_1⟩ : LoadRect S480x128), spos_4_1⟩ : Rect S480x128), (k0_pay4 (k0_pay26 (peaks (F := F) c i arg1 harg1 arg2 harg2 arg3 harg3 arg4 harg4 arg5 harg5 arg6 harg6 arg7 harg7 arg8 harg8 arg9 harg9 x0 x1 x2 x3).2))⟩, ⟨(⟨(⟨![1, 0], S120x128.size, ![4, 1], inb_S480x128_S120x128_1_0_s_4_1⟩ : LoadRect S480x128), spos_4_1⟩ : Rect S480x128), (k0_pay2 (k0_pay24 (peaks (F := F) c i arg1 harg1 arg2 harg2 arg3 harg3 arg4 harg4 arg5 harg5 arg6 harg6 arg7 harg7 arg8 harg8 arg9 harg9 x0 x1 x2 x3).1))⟩, ⟨(⟨(⟨![0, 0], S120x128.size, ![4, 1], inb_S480x128_S120x128_0_0_s_4_1⟩ : LoadRect S480x128), spos_4_1⟩ : Rect S480x128), (k0_pay29 (peaks (F := F) c i arg1 harg1 arg2 harg2 arg3 harg3 arg4 harg4 arg5 harg5 arg6 harg6 arg7 harg7 arg8 harg8 arg9 harg9 x0 x1 x2 x3).1)⟩] _ _) $$ H5; iintro H5
  iapply (Scf.wp_for_bind frame (wpE (defs₀ (F := F)) Variants.none (c : Thread nD τ) none) E k0_t3_loop.lb k0_t3_loop.ub k0_t3_loop.st k0_t3_ok _ _
    (inv_k0_t3 (F := F) Variants.none c none i arg1 harg1 arg2 harg2 arg3 harg3 arg4 harg4 arg5 harg5 arg6 harg6 arg7 harg7 arg8 harg8 arg9 harg9 (k0_pay23 (peaks (F := F) c i arg1 harg1 arg2 harg2 arg3 harg3 arg4 harg4 arg5 harg5 arg6 harg6 arg7 harg7 arg8 harg8 arg9 harg9 x0 x1 x2 x3).1) (k0_pay24 (peaks (F := F) c i arg1 harg1 arg2 harg2 arg3 harg3 arg4 harg4 arg5 harg5 arg6 harg6 arg7 harg7 arg8 harg8 arg9 harg9 x0 x1 x2 x3).1) (k0_pay26 (peaks (F := F) c i arg1 harg1 arg2 harg2 arg3 harg3 arg4 harg4 arg5 harg5 arg6 harg6 arg7 harg7 arg8 harg8 arg9 harg9 x0 x1 x2 x3).2) (k0_pay27 (peaks (F := F) c i arg1 harg1 arg2 harg2 arg3 harg3 arg4 harg4 arg5 harg5 arg6 harg6 arg7 harg7 arg8 harg8 arg9 harg9 x0 x1 x2 x3).2) (harg9.unread (Zv (F := F) c i arg1 harg1 arg2 harg2 arg3 harg3 arg4 harg4 arg5 harg5 arg6 harg6 arg7 harg7 arg8 harg8 arg9 harg9 x0 x1 x2 x3)) f4)
    (loopInv_k0_t3 (F := F) Variants.none c none E i arg1 harg1 arg2 harg2 arg3 harg3 arg4 harg4 arg5 harg5 arg6 harg6 arg7 harg7 arg8 harg8 arg9 harg9 (k0_pay23 (peaks (F := F) c i arg1 harg1 arg2 harg2 arg3 harg3 arg4 harg4 arg5 harg5 arg6 harg6 arg7 harg7 arg8 harg8 arg9 harg9 x0 x1 x2 x3).1) (k0_pay24 (peaks (F := F) c i arg1 harg1 arg2 harg2 arg3 harg3 arg4 harg4 arg5 harg5 arg6 harg6 arg7 harg7 arg8 harg8 arg9 harg9 x0 x1 x2 x3).1) (k0_pay26 (peaks (F := F) c i arg1 harg1 arg2 harg2 arg3 harg3 arg4 harg4 arg5 harg5 arg6 harg6 arg7 harg7 arg8 harg8 arg9 harg9 x0 x1 x2 x3).2) (k0_pay27 (peaks (F := F) c i arg1 harg1 arg2 harg2 arg3 harg3 arg4 harg4 arg5 harg5 arg6 harg6 arg7 harg7 arg8 harg8 arg9 harg9 x0 x1 x2 x3).2) (harg9.unread (Zv (F := F) c i arg1 harg1 arg2 harg2 arg3 harg3 arg4 harg4 arg5 harg5 arg6 harg6 arg7 harg7 arg8 harg8 arg9 harg9 x0 x1 x2 x3)) f4).step) $$ [H8 H4]
  · isplitl [H8]; · iexact H8
    iexists _; isplitl [H4]; · iexact H4
    ipureintro; rfl
  iintro %_ ⟨H8, ⟨%g4, H4, %hg4⟩⟩
  subst hg4
  iapply (le_wp_ret frame (wpE (defs₀ (F := F)) Variants.none (c : Thread nD τ) none) E)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]; · iexists _; iexact H4
  isplitl [H5]; · iexists _; iexact H5
  isplitl [H6]; · iexists _; iexact H6
  isplitl [H7]
  · iexists _, (harg8.unread (T (F := F) Variants.none c none i arg1 harg1 arg2 harg2 arg3 harg3 arg4 harg4 arg5 harg5 arg6 harg6 arg7 harg7 arg8 harg8 arg9 harg9 (harg1.unread x0) (harg2.unread x1) (harg3.unread x2))); isplitr; · ipureintro; rfl
    iexact H7
  iexists _, (harg9.unread (Zv (F := F) c i arg1 harg1 arg2 harg2 arg3 harg3 arg4 harg4 arg5 harg5 arg6 harg6 arg7 harg7 arg8 harg8 arg9 harg9 x0 x1 x2 x3)); isplitr; · ipureintro; rfl
  iexact H8

end Cert.RotateIdeal.Gen

end
-- ==== Proof.RotateIdealFrame.lean ====
module

public import proofs.«01_k».proof.Proof.RotateIdealRun
public import proofs.«01_k».proof.Proof.Gen.RotateIdeal.Frame
public import Idealize.ShloMosaic.Lib.Claim
public import Idealize.ShloMosaic.Lib.Pipeline.FrameBody
public import Idealize.ShloMosaic.Lib.Ring
public import Idealize.ShloMosaic.Lib.WordCmp

@[expose] public section

set_option maxRecDepth 16384

noncomputable section

namespace Cert.RotateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces of the codes tile their block, -/
theorem L4_cover (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec F S1x60x160x128 .bf16) (x3 : Vec F S240x240 .bf16) (y : S480x7680.Idx) : ∃ pc ∈ L4 (F := F) c i arg1 harg1 arg2 harg2 arg3 harg3 arg4 harg4 arg5 harg5 arg6 harg6 arg7 harg7 arg8 harg8 arg9 harg9 x0 x1 x2 x3, y ∈ pc.1.set :=
  View.cover_of_tiledL (L4 (F := F) c i arg1 harg1 arg2 harg2 arg3 harg3 arg4 harg4 arg5 harg5 arg6 harg6 arg7 harg7 arg8 harg8 arg9 harg9 x0 x1 x2 x3) S480x128.size (by sl_kernel_rfl) y

/-- the scales' too, -/
theorem L6_cover (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec F S1x60x160x128 .bf16) (x3 : Vec F S240x240 .bf16) (y : S1x4x128.Idx) : ∃ pc ∈ L6 (F := F) c i arg1 harg1 arg2 harg2 arg3 harg3 arg4 harg4 arg5 harg5 arg6 harg6 arg7 harg7 arg8 harg8 arg9 harg9 x0 x1 x2 x3, y ∈ pc.1.set :=
  View.cover_of_tiledL (L6 (F := F) c i arg1 harg1 arg2 harg2 arg3 harg3 arg4 harg4 arg5 harg5 arg6 harg6 arg7 harg7 arg8 harg8 arg9 harg9 x0 x1 x2 x3) S1x1x128.size (by sl_kernel_rfl) y

/-- and a row of the spread scales is on the strided piece of its remainder by four. -/
theorem L5_cover (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec F S1x60x160x128 .bf16) (x3 : Vec F S240x240 .bf16) (y : S480x128.Idx) : ∃ pc ∈ L5 (F := F) c i arg1 harg1 arg2 harg2 arg3 harg3 arg4 harg4 arg5 harg5 arg6 harg6 arg7 harg7 arg8 harg8 arg9 harg9 x0 x1 x2 x3, y ∈ pc.1.set := by
  have hy0 : (y 0).val < 480 := (y 0).isLt
  have hy1 : (y 1).val < 128 := (y 1).isLt
  have key : ∀ (q : ℕ) (hi) (hp : ∀ ax, 0 < _), (y 0).val % 4 = q →
      y ∈ (⟨(⟨![q, 0], S120x128.size, ![4, 1], hi⟩ : LoadRect S480x128), hp⟩ : Rect S480x128).set := by
    intro q hi hp hq
    refine (LoadRect.mem_set _).mpr fun ax => ?_
    fin_cases ax
    · exact ⟨(y 0).val / 4, by show _ < 120; omega, by show (y 0).val = q + 4 * _; omega⟩
    · exact ⟨(y 1).val, hy1, by show (y 1).val = 0 + 1 * _; omega⟩
  have h4 : (y 0).val % 4 = 3 ∨ (y 0).val % 4 = 2 ∨ (y 0).val % 4 = 1 ∨ (y 0).val % 4 = 0 := by omega
  rcases h4 with h | h | h | h
  · exact ⟨_, .head _, key _ _ _ h⟩
  · exact ⟨_, .tail _ (.head _), key _ _ _ h⟩
  · exact ⟨_, .tail _ (.tail _ (.head _)), key _ _ _ h⟩
  · exact ⟨_, .tail _ (.tail _ (.tail _ (.head _))), key _ _ _ h⟩

abbrev ms0_0 (t : Fin cfg0.N) : Memref sig .tc .vmem S1x60x160x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x60x160x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x60x160x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S240x240 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S480x7680 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S480x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x128 .f32 := win0_6.stage (cfg0.slots t 6)
abbrev hs0_6 (t : Fin cfg0.N) : (ms0_6 t).IsWhole := hstage0_6 ((cfg0.slots t 6).cast nbuf0_6)
abbrev scM0_0 : Memref sig .tc .vmem S2x7680x2x128 .bf16 := Memref.whole cc0_scratch0
abbrev scM0_1 : Memref sig .tc .vmem S2x7680x256 .f32 := Memref.whole cc0_scratch1

/-- The invariant with the scratch as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

variable (m : (ℓ : Loc nD τ sig) → Buf (Elt F) ℓ) (ρ : Dev nD → PrngReg)

/-- The codes' block after the body at a point, -/
def out4 (c : Dev nD) (t : Fin cfg0.N) : Vec F S480x7680 .i8 :=
  (ms0_4 t).view.read (Elt F) ((ms0_4 t).view.writes (Elt F) (ms0_4 t).view.junk (L4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t)))
/-- the spread scales' -/
def out5 (c : Dev nD) (t : Fin cfg0.N) : Vec F S480x128 .f32 :=
  (ms0_5 t).view.read (Elt F) ((ms0_5 t).view.writes (Elt F) (ms0_5 t).view.junk (L5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t)))
/-- and the scales'. -/
def out6 (c : Dev nD) (t : Fin cfg0.N) : Vec F S1x4x128 .f32 :=
  (ms0_6 t).view.read (Elt F) ((ms0_6 t).view.writes (Elt F) (ms0_6 t).view.junk (L6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t)))

/-- The proof data: each input's buffer at its block, each output's at what the body writes; the three windows of one array share it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
    | ⟨6, _⟩ => out6 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6]
  rw [show (dats m 0 c).Φ t.succ = Pipeline.ΦA spec0 c from rfl, show (dats m 0 c).Φ t.castSucc = Pipeline.ΦA spec0 c from rfl, PhiA0_eq]
  unfold out4 out5 out6
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (kernelRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, ⟨%e4, H4⟩, ⟨%e5, H5⟩, ⟨%e6, H6⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (L4_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t))
  isplitl [H5]
  · unfold owns; iexists _; isplitr
    swap; · iexact H5
    ipureintro; exact View.read_writes_of_cover _ _ _ _ _ (L5_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t))
  unfold owns; iexists _; isplitr
  swap; · iexact H6
  ipureintro; exact View.read_writes_of_cover _ _ _ _ _ (L6_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run, with every counter at zero at the end. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.RotateIdeal.Gen

end
-- ==== Proof.RotateTokens.lean ====
/-
  What the transposition loop leaves in its scratch: the tokens of the three input blocks, by pair, row, parity and lane.
-/
module

public import proofs.«01_k».proof.Proof.RotateIdealFrame
public import Idealize.ShloMosaic.Lib.Pointwise
public import Idealize.ShloMosaic.Lib.BitcastFour
public import Idealize.ShloMosaic.Lib.Bf16Pair
public import Idealize.ShloMosaic.Lib.Pipeline.Value
public import Idealize.ShloMosaic.Lib.Pipeline.ValueKit
public import Idealize.ShloMosaic.Lib.Pipeline.ReadBack
public import Idealize.ShloMosaic.Lib.Pipeline.CanonAppend

@[expose] public section

set_option maxRecDepth 16384

noncomputable section

namespace Cert.RotateIdeal.Block

open Idealize.ShloMosaic Idealize.ShloMosaic.TcCoe Idealize.SL.Sem
open Cert.RotateIdeal Cert.RotateIdeal.Gen

/-- The token of a piece that the transposed scratch holds at pair `p`, parity `b` and lane `q`, in the features of head `h`, position `d`. -/
def tok (x0 x1 x2 : Vec Ideal S1x60x160x128 .bf16) (p : Fin 2) (h : Fin 60) (d : Fin 128) (b : Fin 2) (q : Fin 128) : EReal :=
  if h0 : q.val < 40 then x0 (ix4 0 h ⟨4 * q.val + 2 * p.val + b.val, by omega⟩ d)
  else if h1 : q.val < 80 then x1 (ix4 0 h ⟨4 * (q.val - 40) + 2 * p.val + b.val, by omega⟩ d)
  else if h2 : q.val < 120 then x2 (ix4 0 h ⟨4 * (q.val - 80) + 2 * p.val + b.val, by omega⟩ d)
  else 0

/-- The transposed scratch at an index: its row is `60 d + h`. -/
def tokAt (x0 x1 x2 : Vec Ideal S1x60x160x128 .bf16) : S2x7680x2x128.Idx → EReal := fun y =>
  tok x0 x1 x2 (y 0) ⟨(y 1).val % 60, Nat.mod_lt _ (by decide)⟩ ⟨(y 1).val / 60, Nat.div_lt_of_lt_mul (y 1).isLt⟩ (y 2) (y 3)

/-- A strided read of an input block whose rows are taken in twos. -/
theorem readAt_rows {M : Memref sig .tc .vmem S1x60x160x128 .bf16} (hM : M.IsWhole) (x : Vec Ideal S1x60x160x128 .bf16)
    (hn : S1x60x80x2x128.numel = S1x60x160x128.numel) (n s : Nat) (inb) (h : Fin 60) (hh : n = h.val) (p : Fin 2) (hs : s = p.val) (i : Fin 40) (b : Fin 2) (d : Fin 128) :
    View.readAt (Elt Ideal) (M.view.reshape S1x60x80x2x128 hn)
      { off := ![0, n, s, 0, 0], size := ![1, 1, 40, 2, 128], stride := ![1, 1, 2, 1, 1], inb := inb } (hM.unread x) (ix5 0 0 i b d)
      = x (ix4 0 h ⟨4 * i.val + 2 * p.val + b.val, by omega⟩ d) := by
  subst hh hs
  rw [View.readAt_apply]
  show M.view.read (Elt Ideal) (hM.unread x) (Shape.reshapeEquiv hn _) = _
  rw [hM.read_unread]
  refine congrArg x (Shape.reshapeEquiv_eq_of_rowMajor hn ?_)
  rw [Shape.rowMajor_val_four, Shape.rowMajor_val_five]
  have e1 : h.val + 1 * 0 = h.val := by omega
  show ((0 * 60 + h.val) * 160 + (4 * i.val + 2 * p.val + b.val)) * 128 + d.val
    = ((((0 + 1 * 0) * 60 + (h.val + 1 * 0)) * 80 + (p.val + 2 * i.val)) * 2 + (0 + 1 * b.val)) * 128 + (0 + 1 * d.val)
  omega

theorem pay8_apply (a b e : Vec Ideal S1x1x40x2x128 .bf16) (d : Fin 128) (p : Fin 2) (q : Fin 128) :
    k0_pay8 (F := Ideal) a b e (ix4 0 d p q) = if h0 : q.val < 40 then a (ix5 0 0 ⟨q.val, h0⟩ p d)
      else if h1 : q.val < 80 then b (ix5 0 0 ⟨q.val - 40, by omega⟩ p d) else if h2 : q.val < 120 then e (ix5 0 0 ⟨q.val - 80, by omega⟩ p d) else 0 := by
  pointwise [k0_pay8]
  have s1 : q.val - 40 < 40 ↔ q.val < 80 := by have := q.isLt; omega
  have s2 : q.val - 80 < 40 ↔ q.val < 120 := by have := q.isLt; omega
  have s3 : q.val - 40 - 40 = q.val - 80 := by omega
  match p with
  | ⟨0, _⟩ =>
    rw [if_pos (show 0 % 2 = 0 from rfl)]
    simp only [s1, s2, s3]; rfl
  | ⟨1, _⟩ =>
    rw [if_neg (show ¬ 1 % 2 = 0 by decide)]
    simp only [s1, s2, s3]; rfl

theorem pay8_tok (x0 x1 x2 : Vec Ideal S1x60x160x128 .bf16) (a b e : Vec Ideal S1x1x40x2x128 .bf16) (s : Fin 2) (h : Fin 60)
    (ha : ∀ i p d, a (ix5 0 0 i p d) = x0 (ix4 0 h ⟨4 * i.val + 2 * s.val + p.val, by omega⟩ d))
    (hb : ∀ i p d, b (ix5 0 0 i p d) = x1 (ix4 0 h ⟨4 * i.val + 2 * s.val + p.val, by omega⟩ d))
    (he : ∀ i p d, e (ix5 0 0 i p d) = x2 (ix4 0 h ⟨4 * i.val + 2 * s.val + p.val, by omega⟩ d)) (d : Fin 128) (p : Fin 2) (q : Fin 128) :
    k0_pay8 (F := Ideal) a b e (ix4 0 d p q) = tok x0 x1 x2 s h d p q := by
  rw [pay8_apply]
  unfold tok
  simp only [ha, hb, he]

theorem pay17_eq : k0_pay17 (F := Ideal) = k0_pay8 (F := Ideal) := rfl

theorem trip_pieces (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec Ideal S1x60x160x128 .bf16) (k : Fin k0_t1_loop.trips) :
    ∀ p ∈ tripL (F := Ideal) Variants.none c none i arg1 harg1 arg2 harg2 arg3 harg3 arg4 harg4 arg5 harg5 arg6 harg6 arg7 harg7 arg8 harg8 arg9 harg9 (harg1.unread x0) (harg2.unread x1) (harg3.unread x2) k,
      ∀ x : p.1.shape.Idx, p.2 x = tokAt x0 x1 x2 (p.1.emb x) := by
  have hk : k.val < 60 := Nat.lt_of_lt_of_le k.isLt k0_t1_abs.2.1
  have hiv : BitVec.toNat (Scalar.indexCast (Scf.iv 0#32 1#32 k.val)) = k.val := congrFun (k0_off1_eq k) 1
  unfold tripL trip_k0_t1
  dsimp only
  intro p hp x
  simp only [List.mem_cons, List.not_mem_nil, or_false] at hp
  have key : ∀ (s : Fin 2) (q : Fin 128) (d : Fin 128) (b : Fin 2) (y : S2x7680x2x128.Idx), (y 0).val = s.val → (y 1).val = k.val + 60 * d.val → (y 2).val = b.val → (y 3).val = q.val →
      tokAt x0 x1 x2 y = tok x0 x1 x2 s ⟨k.val, hk⟩ d b q := by
    intro s q d b y h0 h1 h2 h3
    unfold tokAt
    congr 1
    · exact Fin.ext h0
    · exact Fin.ext (by show (y 1).val % 60 = k.val; omega)
    · exact Fin.ext (by show (y 1).val / 60 = d.val; omega)
    · exact Fin.ext h2
    · exact Fin.ext h3
  rcases hp with rfl | rfl
  · sl_unfold_words
    idx_vars x
    obtain rfl : x0 = 0 := Subsingleton.elim _ _
    rw [pay17_eq]
    rw [key 1 x3 x1 x2 _ rfl (by show BitVec.toNat (Scalar.indexCast (Scf.iv 0#32 1#32 k.val)) + 60 * x1.val = _; rw [hiv]) (by show 0 + 1 * x2.val = _; omega) (by show 0 + 1 * x3.val = _; omega)]
    exact pay8_tok _ _ _ _ _ _ _ _ (readAt_rows harg1 _ _ _ _ _ ⟨k.val, hk⟩ hiv 1 rfl) (readAt_rows harg2 _ _ _ _ _ ⟨k.val, hk⟩ hiv 1 rfl)
      (readAt_rows harg3 _ _ _ _ _ ⟨k.val, hk⟩ hiv 1 rfl) _ _ _
  · sl_unfold_words
    idx_vars x
    obtain rfl : x0 = 0 := Subsingleton.elim _ _
    rw [key 0 x3 x1 x2 _ rfl (by show BitVec.toNat (Scalar.indexCast (Scf.iv 0#32 1#32 k.val)) + 60 * x1.val = _; rw [hiv]) (by show 0 + 1 * x2.val = _; omega) (by show 0 + 1 * x3.val = _; omega)]
    exact pay8_tok _ _ _ _ _ _ _ _ (readAt_rows harg1 _ _ _ _ _ ⟨k.val, hk⟩ hiv 0 rfl) (readAt_rows harg2 _ _ _ _ _ ⟨k.val, hk⟩ hiv 0 rfl)
      (readAt_rows harg3 _ _ _ _ _ ⟨k.val, hk⟩ hiv 0 rfl) _ _ _

/-- The transposed scratch after its loop. -/
theorem T_eq (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec Ideal S1x60x160x128 .bf16) :
    Gen.T (F := Ideal) Variants.none c none i arg1 harg1 arg2 harg2 arg3 harg3 arg4 harg4 arg5 harg5 arg6 harg6 arg7 harg7 arg8 harg8 arg9 harg9 (harg1.unread x0) (harg2.unread x1) (harg3.unread x2) = tokAt x0 x1 x2 := by
  funext y
  unfold Gen.T
  exact View.read_writes_apply_of_pieces _ _ (tokAt x0 x1 x2) _ (trip_pieces c i arg1 harg1 arg2 harg2 arg3 harg3 arg4 harg4 arg5 harg5 arg6 harg6 arg7 harg7 arg8 harg8 arg9 harg9 x0 x1 x2 (trip y)) y
    (trip_cover (F := Ideal) Variants.none c none i arg1 harg1 arg2 harg2 arg3 harg3 arg4 harg4 arg5 harg5 arg6 harg6 arg7 harg7 arg8 harg8 arg9 harg9 _ _ _ (trip y) y rfl)

end Cert.RotateIdeal.Block

end
-- ==== Proof.RotateRows.lean ====
/-
  What the rotation loop leaves in the second scratch, and the peaks it carries out.
-/
module

public import proofs.«01_k».proof.Proof.RotateTokens

@[expose] public section

set_option maxRecDepth 16384

noncomputable section

namespace Cert.RotateIdeal.Block

open Idealize.ShloMosaic Idealize.ShloMosaic.TcCoe Idealize.SL.Sem
open Cert.RotateIdeal Cert.RotateIdeal.Gen

/-- The factor of the rotation, as the kernel holds it. -/
def norm : EReal := Ideal.ofBits FTy.f32 0x3E0432A5#32

/-- A rotated row: row `n` of pair `p` at lane `l`, from the rows of its block of 240 in the transposed scratch. -/
def rot (W : Vec Ideal S2x7680x2x128 .bf16) (H : Vec Ideal S240x240 .bf16) (p : Fin 2) (n : Fin 7680) (l : Fin 256) : EReal :=
  (∑ x : Fin 240, H (ix2 ⟨n.val % 240, Nat.mod_lt _ (by decide)⟩ x)
    * W (ix4 p ⟨240 * (n.val / 240) + x.val, by omega⟩ ⟨l.val / 128, by omega⟩ ⟨l.val % 128, by omega⟩)) * norm

def rotAt (W : Vec Ideal S2x7680x2x128 .bf16) (H : Vec Ideal S240x240 .bf16) : S2x7680x256.Idx → EReal := fun y =>
  rot W H (y 0) (y 1) (y 2)

/-- The product of one block of rows at an index. -/
theorem pay10_apply (v59 : Vec Ideal S1x240x2x128 .bf16) (h : Vec Ideal S240x240 .bf16) (g : Fin 240) (l : Fin 256) (n : Ideal .f32) :
    k0_pay10 (F := Ideal) n v59 h (ix3 0 g l) = (∑ x : Fin 240, h (ix2 g x) * v59 (ix4 0 x ⟨l.val / 128, by omega⟩ ⟨l.val % 128, by omega⟩)) * n := by
  pointwise [k0_pay10, k0_pay9]
  refine congrArg (fun z : EReal => z * n) (Finset.sum_congr rfl fun x _ => congrArg (fun z : EReal => h (ix2 g x) * z) ?_)
  split
  · rename_i h0
    congr 2
    · exact Fin.ext (by show 0 = l.val / 128; omega)
    · exact Fin.ext (by show l.val = l.val % 128; omega)
  · rename_i h0
    have := l.isLt
    congr 2
    · exact Fin.ext (by show 1 = l.val / 128; omega)
    · exact Fin.ext (by show l.val - 128 = l.val % 128; omega)

theorem pay20_apply (v85 : Vec Ideal S1x240x2x128 .bf16) (h : Vec Ideal S240x240 .bf16) (g : Fin 240) (l : Fin 256) :
    k0_pay20 (F := Ideal) (k0_pay12 v85) (k0_pay13 v85) h (ix3 0 g l) = (∑ x : Fin 240, h (ix2 g x) * v85 (ix4 0 x ⟨l.val / 128, by omega⟩ ⟨l.val % 128, by omega⟩)) * norm := by
  pointwise [k0_pay20, k0_pay19, k0_pay12, k0_pay13]
  refine congrArg (fun z : EReal => z * norm) (Finset.sum_congr rfl fun x _ => congrArg (fun z : EReal => h (ix2 g x) * z) ?_)
  split
  · rename_i h0
    congr 2
    · exact Fin.ext (by show 0 = l.val / 128; omega)
    · exact Fin.ext (by show l.val = l.val % 128; omega)
  · rename_i h0
    have := l.isLt
    congr 2
    · exact Fin.ext (by show 1 = l.val / 128; omega)
    · exact Fin.ext (by show l.val - 128 = l.val % 128; omega)

/-- The running peak after one more block of rows. -/
theorem pay11_apply (v59 : Vec Ideal S1x240x2x128 .bf16) (h : Vec Ideal S240x240 .bf16) (a : Vec Ideal S8x256 .f32) (s : Fin 8) (l : Fin 256) (n : Ideal .f32) :
    k0_pay11 (F := Ideal) n a v59 h (ix2 s l) = max (a (ix2 s l)) (Finset.fold max (Ideal.ofBits FTy.f32 0xFF800000#32)
      (fun x : Fin 30 => FloatOps.absf (F := Ideal) (φ := .f32) (k0_pay10 (F := Ideal) n v59 h (ix3 0 ⟨x.val * 8 + s.val, by omega⟩ l))) Finset.univ) := by
  unfold k0_pay10
  generalize hz : k0_pay9 (F := Ideal) n v59 h = z
  pointwise [k0_pay11, hz]

theorem pay21_apply (v85 : Vec Ideal S1x240x2x128 .bf16) (h : Vec Ideal S240x240 .bf16) (a : Vec Ideal S8x256 .f32) (s : Fin 8) (l : Fin 256) :
    k0_pay21 (F := Ideal) a (k0_pay12 v85) (k0_pay13 v85) h (ix2 s l) = max (a (ix2 s l)) (Finset.fold max (Ideal.ofBits FTy.f32 0xFF800000#32)
      (fun x : Fin 30 => FloatOps.absf (F := Ideal) (φ := .f32) (k0_pay20 (F := Ideal) (k0_pay12 v85) (k0_pay13 v85) h (ix3 0 ⟨x.val * 8 + s.val, by omega⟩ l))) Finset.univ) := by
  unfold k0_pay20
  generalize hz : k0_pay19 (F := Ideal) (k0_pay12 v85) (k0_pay13 v85) h = z
  pointwise [k0_pay21, hz]

theorem neg_inf : Ideal.ofBits FTy.f32 0xFF800000#32 = (⊥ : EReal) := by
  simp [Ideal.ofBits, Ideal.ieee]

theorem pay18_apply (i : S8x256.Idx) : k0_pay18 (F := Ideal) i = (0 : EReal) := by
  rw [eq_ix2 i]
  pointwise [k0_pay18]

/-- A block of 240 rows of the transposed scratch. -/
theorem ld_rows (W : Vec Ideal S2x7680x2x128 .bf16) (P N k : Nat) (inb) (p : Fin 2) (hP : P = p.val) (hN : N = 240 * k) (hk : k < 32) (x : Fin 240) (b : Fin 2) (d : Fin 128) :
    View.ld W (Rect.unit (s := S2x7680x2x128) ![P, N, 0, 0] ![1, 240, 2, 128] inb) (ix4 0 x b d) = W (ix4 p ⟨240 * k + x.val, by omega⟩ b d) := by
  subst hP hN
  refine congrArg W (funext fun a => Fin.ext ?_)
  match a with
  | ⟨0, _⟩ => show p.val + 1 * 0 = p.val; omega
  | ⟨1, _⟩ => show 240 * k + 1 * x.val = 240 * k + x.val; omega
  | ⟨2, _⟩ => show 0 + 1 * b.val = b.val; omega
  | ⟨3, _⟩ => show 0 + 1 * d.val = d.val; omega

theorem hz2 : (![0, 0] : Fin 2 → Nat) = fun _ => 0 := funext fun a => by fin_cases a <;> rfl

theorem ld_H (H : Vec Ideal S240x240 .bf16) (inb) : View.ld H (Rect.unit (s := S240x240) ![0, 0] ![240, 240] inb) = H :=
  View.ld_unit_zero (S := S240x240) hz2 inb H

/-- The sum of one block is the rotated row. -/
theorem sum_rot (W : Vec Ideal S2x7680x2x128 .bf16) (H : Vec Ideal S240x240 .bf16) (p : Fin 2) (k : Nat) (hk : k < 32) (g : Fin 240) (l : Fin 256) (n : Fin 7680) (hn : n.val = 240 * k + g.val) :
    (∑ x : Fin 240, H (ix2 g x) * W (ix4 p ⟨240 * k + x.val, by omega⟩ ⟨l.val / 128, by omega⟩ ⟨l.val % 128, by omega⟩)) * norm = rot W H p n l := by
  have h1 : n.val % 240 = g.val := by omega
  have h2 : n.val / 240 = k := by omega
  unfold rot
  simp only [h1, h2]

theorem block10 (W : Vec Ideal S2x7680x2x128 .bf16) (H : Vec Ideal S240x240 .bf16) (P N k : Nat) (inb) (p : Fin 2) (hP : P = p.val) (hN : N = 240 * k) (hk : k < 32)
    (g : Fin 240) (l : Fin 256) (n : Fin 7680) (hn : n.val = 240 * k + g.val) :
    k0_pay10 (F := Ideal) norm (View.ld W (Rect.unit (s := S2x7680x2x128) ![P, N, 0, 0] ![1, 240, 2, 128] inb)) H (ix3 0 g l) = rot W H p n l := by
  refine (pay10_apply _ _ _ _ _).trans ?_
  refine Eq.trans ?_ (sum_rot W H p k hk g l n hn)
  exact congrArg (fun z : EReal => z * norm) (Finset.sum_congr rfl fun x _ => congrArg (fun z : EReal => H (ix2 g x) * z) (ld_rows W P N k inb p hP hN hk _ _ _))

theorem block20 (W : Vec Ideal S2x7680x2x128 .bf16) (H : Vec Ideal S240x240 .bf16) (P N k : Nat) (inb) (p : Fin 2) (hP : P = p.val) (hN : N = 240 * k) (hk : k < 32)
    (g : Fin 240) (l : Fin 256) (n : Fin 7680) (hn : n.val = 240 * k + g.val) :
    k0_pay20 (F := Ideal) (k0_pay12 (View.ld W (Rect.unit (s := S2x7680x2x128) ![P, N, 0, 0] ![1, 240, 2, 128] inb)))
      (k0_pay13 (View.ld W (Rect.unit (s := S2x7680x2x128) ![P, N, 0, 0] ![1, 240, 2, 128] inb))) H (ix3 0 g l) = rot W H p n l := by
  refine (pay20_apply _ _ _ _).trans ?_
  refine Eq.trans ?_ (sum_rot W H p k hk g l n hn)
  exact congrArg (fun z : EReal => z * norm) (Finset.sum_congr rfl fun x _ => congrArg (fun z : EReal => H (ix2 g x) * z) (ld_rows W P N k inb p hP hN hk _ _ _))

theorem iv240 (k : Fin k0_t2_loop.trips) : BitVec.toNat (Scalar.indexCast (Scalar.muli (Scf.iv 0#32 1#32 k.val) 240#32)) = 240 * k.val :=
  congrFun (k0_off5_eq k) 1

/-- The pieces one trip of the rotation loop stores hold the rotated rows. -/
theorem rows_pieces (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (W : Vec Ideal S2x7680x2x128 .bf16) (H : Vec Ideal S240x240 .bf16) (k : Fin k0_t2_loop.trips) (acc : FVec Ideal S8x256 .f32 × FVec Ideal S8x256 .f32) :
    ∀ p ∈ tripL_k0_t2 (F := Ideal) Variants.none c none i arg1 harg1 arg2 harg2 arg3 harg3 arg4 harg4 arg5 harg5 arg6 harg6 arg7 harg7 arg8 harg8 arg9 harg9 (Scalar.ofBits .f32 0x3E0432A5#32) (harg4.unread H) (harg8.unread W) k acc,
      ∀ x : p.1.shape.Idx, p.2 x = rotAt W H (p.1.emb x) := by
  have hk : k.val < 32 := Nat.lt_of_lt_of_le k.isLt k0_t2_abs.2.1
  have hiv := iv240 k
  have key : ∀ (s : Fin 2) (g : Fin 240) (l : Fin 256) (y : S2x7680x256.Idx), (y 0).val = s.val → (y 1).val = 240 * k.val + g.val → (y 2).val = l.val →
      rotAt W H y = rot W H s ⟨240 * k.val + g.val, by omega⟩ l := by
    intro s g l y h0 h1 h2
    unfold rotAt
    congr 1
    · exact Fin.ext h0
    · exact Fin.ext h1
    · exact Fin.ext h2
  unfold tripL_k0_t2 trip_k0_t2
  dsimp only
  intro p hp x
  simp only [List.mem_cons, List.not_mem_nil, or_false] at hp
  rcases hp with rfl | rfl
  · sl_unfold_words
    simp only [View.readAt_eq_ld, harg4.read_unread, harg8.read_unread]
    idx_vars x
    obtain rfl : x0 = 0 := Subsingleton.elim _ _
    rw [key 1 x1 x2 _ rfl (by show BitVec.toNat (Scalar.indexCast (Scalar.muli (Scf.iv 0#32 1#32 k.val) 240#32)) + 1 * x1.val = _; rw [hiv]; omega) (by show 0 + 1 * x2.val = _; omega)]
    rw [ld_H]
    exact block20 W H _ _ k.val _ 1 rfl hiv hk _ _ _ rfl
  · sl_unfold_words
    simp only [View.readAt_eq_ld, harg4.read_unread, harg8.read_unread]
    idx_vars x
    obtain rfl : x0 = 0 := Subsingleton.elim _ _
    rw [key 0 x1 x2 _ rfl (by show BitVec.toNat (Scalar.indexCast (Scalar.muli (Scf.iv 0#32 1#32 k.val) 240#32)) + 1 * x1.val = _; rw [hiv]; omega) (by show 0 + 1 * x2.val = _; omega)]
    rw [ld_H]
    exact block10 W H _ _ k.val _ 0 rfl hiv hk _ _ _ rfl

/-- A peak bound after one more block, of a running peak with a known bound. -/
theorem fold_le (a : EReal) (f : Fin 30 → EReal) (b : EReal) :
    max a (Finset.fold max (Ideal.ofBits FTy.f32 0xFF800000#32) f Finset.univ) ≤ b ↔ a ≤ b ∧ ∀ x, f x ≤ b := by
  rw [neg_inf, max_le_iff, Finset.fold_max_le]
  simp

theorem absf_eq (x : EReal) : FloatOps.absf (F := Ideal) (φ := .f32) x = (max x (-x) : EReal) := rfl

/-- The two running peaks after one trip, by their bounds. -/
theorem peak_step (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (W : Vec Ideal S2x7680x2x128 .bf16) (H : Vec Ideal S240x240 .bf16) (k : Fin k0_t2_loop.trips) (acc : FVec Ideal S8x256 .f32 × FVec Ideal S8x256 .f32)
    (s : Fin 8) (l : Fin 256) (b : EReal) :
    (((tripR_k0_t2 (F := Ideal) Variants.none c none i arg1 harg1 arg2 harg2 arg3 harg3 arg4 harg4 arg5 harg5 arg6 harg6 arg7 harg7 arg8 harg8 arg9 harg9 (Scalar.ofBits .f32 0x3E0432A5#32) (harg4.unread H) (harg8.unread W) k acc).1 (ix2 s l) : EReal) ≤ b
      ↔ acc.1 (ix2 s l) ≤ b ∧ ∀ (x : Fin 30) (n : Fin 7680), n.val = 240 * k.val + (x.val * 8 + s.val) → max (rot W H 0 n l) (-(rot W H 0 n l)) ≤ b)
    ∧ (((tripR_k0_t2 (F := Ideal) Variants.none c none i arg1 harg1 arg2 harg2 arg3 harg3 arg4 harg4 arg5 harg5 arg6 harg6 arg7 harg7 arg8 harg8 arg9 harg9 (Scalar.ofBits .f32 0x3E0432A5#32) (harg4.unread H) (harg8.unread W) k acc).2 (ix2 s l) : EReal) ≤ b
      ↔ acc.2 (ix2 s l) ≤ b ∧ ∀ (x : Fin 30) (n : Fin 7680), n.val = 240 * k.val + (x.val * 8 + s.val) → max (rot W H 1 n l) (-(rot W H 1 n l)) ≤ b) := by
  have hk : k.val < 32 := Nat.lt_of_lt_of_le k.isLt k0_t2_abs.2.1
  have hiv := iv240 k
  unfold tripR_k0_t2 trip_k0_t2
  dsimp only
  sl_unfold_words
  simp only [View.readAt_eq_ld, harg4.read_unread, harg8.read_unread]
  rw [ld_H]
  constructor
  · refine (iff_of_eq (congrArg (fun z : EReal => z ≤ b) (pay11_apply _ _ _ _ _ _))).trans ((fold_le _ _ _).trans (and_congr Iff.rfl (forall_congr' fun x => ?_)))
    have e := block10 W H 0 (BitVec.toNat (Scalar.indexCast (Scalar.muli (Scf.iv 0#32 1#32 k.val) 240#32))) k.val (by exact k0_off5_inb k) 0 rfl hiv hk ⟨x.val * 8 + s.val, by omega⟩ l ⟨240 * k.val + (x.val * 8 + s.val), by omega⟩ rfl
    refine (iff_of_eq (congrArg (fun z : EReal => max z (-z) ≤ b) e)).trans ⟨fun h n hn => ?_, fun h => h _ rfl⟩
    rw [show n = ⟨240 * k.val + (x.val * 8 + s.val), by omega⟩ from Fin.ext hn]
    exact h
  · refine (iff_of_eq (congrArg (fun z : EReal => z ≤ b) (pay21_apply _ _ _ _ _))).trans ((fold_le _ _ _).trans (and_congr Iff.rfl (forall_congr' fun x => ?_)))
    have e := block20 W H 1 (BitVec.toNat (Scalar.indexCast (Scalar.muli (Scf.iv 0#32 1#32 k.val) 240#32))) k.val (by exact k0_off7_inb k) 1 rfl hiv hk ⟨x.val * 8 + s.val, by omega⟩ l ⟨240 * k.val + (x.val * 8 + s.val), by omega⟩ rfl
    refine (iff_of_eq (congrArg (fun z : EReal => max z (-z) ≤ b) e)).trans ⟨fun h n hn => ?_, fun h => h _ rfl⟩
    rw [show n = ⟨240 * k.val + (x.val * 8 + s.val), by omega⟩ from Fin.ext hn]
    exact h

/-- The pieces and the peaks of the trips before `n`. -/
theorem st_spec (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (W : Vec Ideal S2x7680x2x128 .bf16) (H : Vec Ideal S240x240 .bf16) : ∀ n : ℕ, n ≤ k0_t2_loop.trips →
    (∀ p ∈ (st_k0_t2 (F := Ideal) Variants.none c none i arg1 harg1 arg2 harg2 arg3 harg3 arg4 harg4 arg5 harg5 arg6 harg6 arg7 harg7 arg8 harg8 arg9 harg9 (Scalar.ofBits .f32 0x3E0432A5#32) (harg4.unread H) (harg8.unread W) (k0_pay18 (F := Ideal), k0_pay18 (F := Ideal)) n).2,
      ∀ x : p.1.shape.Idx, p.2 x = rotAt W H (p.1.emb x))
    ∧ ∀ (s : Fin 8) (l : Fin 256) (b : EReal),
      (((st_k0_t2 (F := Ideal) Variants.none c none i arg1 harg1 arg2 harg2 arg3 harg3 arg4 harg4 arg5 harg5 arg6 harg6 arg7 harg7 arg8 harg8 arg9 harg9 (Scalar.ofBits .f32 0x3E0432A5#32) (harg4.unread H) (harg8.unread W) (k0_pay18 (F := Ideal), k0_pay18 (F := Ideal)) n).1.1 (ix2 s l) : EReal) ≤ b
        ↔ 0 ≤ b ∧ ∀ m : Fin 7680, m.val < 240 * n → m.val % 8 = s.val → max (rot W H 0 m l) (-(rot W H 0 m l)) ≤ b)
      ∧ (((st_k0_t2 (F := Ideal) Variants.none c none i arg1 harg1 arg2 harg2 arg3 harg3 arg4 harg4 arg5 harg5 arg6 harg6 arg7 harg7 arg8 harg8 arg9 harg9 (Scalar.ofBits .f32 0x3E0432A5#32) (harg4.unread H) (harg8.unread W) (k0_pay18 (F := Ideal), k0_pay18 (F := Ideal)) n).1.2 (ix2 s l) : EReal) ≤ b
        ↔ 0 ≤ b ∧ ∀ m : Fin 7680, m.val < 240 * n → m.val % 8 = s.val → max (rot W H 1 m l) (-(rot W H 1 m l)) ≤ b)
  | 0, _ => by
    rw [st_k0_t2.eq_1]
    refine ⟨fun p hp => absurd hp List.not_mem_nil, fun s l b => ⟨?_, ?_⟩⟩
    all_goals
      refine (iff_of_eq (congrArg (fun z : EReal => z ≤ b) (pay18_apply (ix2 s l)))).trans ⟨fun h => ⟨h, fun m hm => ?_⟩, fun h => h.1⟩
      omega
  | n + 1, hn => by
    obtain ⟨ihp, ihm⟩ := st_spec c i arg1 harg1 arg2 harg2 arg3 harg3 arg4 harg4 arg5 harg5 arg6 harg6 arg7 harg7 arg8 harg8 arg9 harg9 W H n (by omega)
    rw [st_k0_t2_succ Variants.none c none i arg1 harg1 arg2 harg2 arg3 harg3 arg4 harg4 arg5 harg5 arg6 harg6 arg7 harg7 arg8 harg8 arg9 harg9 _ _ _ _ ⟨n, hn⟩]
    generalize st_k0_t2 (F := Ideal) Variants.none c none i arg1 harg1 arg2 harg2 arg3 harg3 arg4 harg4 arg5 harg5 arg6 harg6 arg7 harg7 arg8 harg8 arg9 harg9 (Scalar.ofBits .f32 0x3E0432A5#32) (harg4.unread H) (harg8.unread W) (k0_pay18 (F := Ideal), k0_pay18 (F := Ideal)) n = st at ihp ihm ⊢
    refine ⟨fun p hp => ?_, fun s l b => ?_⟩
    · rcases List.mem_append.mp hp with h | h
      · exact rows_pieces c i arg1 harg1 arg2 harg2 arg3 harg3 arg4 harg4 arg5 harg5 arg6 harg6 arg7 harg7 arg8 harg8 arg9 harg9 W H _ _ p h
      · exact ihp p h
    · have h := peak_step c i arg1 harg1 arg2 harg2 arg3 harg3 arg4 harg4 arg5 harg5 arg6 harg6 arg7 harg7 arg8 harg8 arg9 harg9 W H ⟨n, hn⟩ st.1 s l b
      have ih := ihm s l b
      have arith : ∀ f : Fin 7680 → EReal, ((0 ≤ b ∧ ∀ m : Fin 7680, m.val < 240 * n → m.val % 8 = s.val → f m ≤ b) ∧ ∀ (x : Fin 30) (m : Fin 7680), m.val = 240 * n + (x.val * 8 + s.val) → f m ≤ b)
          ↔ 0 ≤ b ∧ ∀ m : Fin 7680, m.val < 240 * (n + 1) → m.val % 8 = s.val → f m ≤ b := by
        intro f
        have hs := s.isLt
        constructor
        · rintro ⟨⟨h0, h1⟩, h2⟩
          refine ⟨h0, fun m hm hms => ?_⟩
          by_cases hc : m.val < 240 * n
          · exact h1 m hc hms
          · exact h2 ⟨(m.val - 240 * n) / 8, by omega⟩ m (by show m.val = 240 * n + ((m.val - 240 * n) / 8 * 8 + s.val); omega)
        · rintro ⟨h0, h1⟩
          exact ⟨⟨h0, fun m hm hms => h1 m (by omega) hms⟩, fun x m hm => h1 m (by omega) (by omega)⟩
      exact ⟨h.1.trans ((and_congr_left' ih.1).trans (arith fun m => max (rot W H 0 m l) (-(rot W H 0 m l)))),
        h.2.trans ((and_congr_left' ih.2).trans (arith fun m => max (rot W H 1 m l) (-(rot W H 1 m l))))⟩

/-- The second scratch after its loop. -/
theorem Zv_eq (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec Ideal S1x60x160x128 .bf16) (H : Vec Ideal S240x240 .bf16) :
    Zv (F := Ideal) c i arg1 harg1 arg2 harg2 arg3 harg3 arg4 harg4 arg5 harg5 arg6 harg6 arg7 harg7 arg8 harg8 arg9 harg9 x0 x1 x2 H = rotAt (tokAt x0 x1 x2) H := by
  funext y
  unfold Zv
  refine View.read_writes_apply_of_pieces _ _ (rotAt (tokAt x0 x1 x2) H) _ ?_ y (st2_cover (F := Ideal) c i arg1 harg1 arg2 harg2 arg3 harg3 arg4 harg4 arg5 harg5 arg6 harg6 arg7 harg7 arg8 harg8 arg9 harg9 x0 x1 x2 H y)
  unfold st2
  rw [T_eq]
  exact (st_spec c i arg1 harg1 arg2 harg2 arg3 harg3 arg4 harg4 arg5 harg5 arg6 harg6 arg7 harg7 arg8 harg8 arg9 harg9 (tokAt x0 x1 x2) H _ le_rfl).1

/-- The peaks after the loop, by their bounds. -/
theorem peaks_le (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec Ideal S1x60x160x128 .bf16) (H : Vec Ideal S240x240 .bf16) (s : Fin 8) (l : Fin 256) (b : EReal) :
    (((peaks (F := Ideal) c i arg1 harg1 arg2 harg2 arg3 harg3 arg4 harg4 arg5 harg5 arg6 harg6 arg7 harg7 arg8 harg8 arg9 harg9 x0 x1 x2 H).1 (ix2 s l) : EReal) ≤ b
        ↔ 0 ≤ b ∧ ∀ m : Fin 7680, m.val % 8 = s.val → max (rot (tokAt x0 x1 x2) H 0 m l) (-(rot (tokAt x0 x1 x2) H 0 m l)) ≤ b)
      ∧ (((peaks (F := Ideal) c i arg1 harg1 arg2 harg2 arg3 harg3 arg4 harg4 arg5 harg5 arg6 harg6 arg7 harg7 arg8 harg8 arg9 harg9 x0 x1 x2 H).2 (ix2 s l) : EReal) ≤ b
        ↔ 0 ≤ b ∧ ∀ m : Fin 7680, m.val % 8 = s.val → max (rot (tokAt x0 x1 x2) H 1 m l) (-(rot (tokAt x0 x1 x2) H 1 m l)) ≤ b) := by
  have ht : k0_t2_loop.trips = 32 := by decide
  unfold peaks st2
  rw [T_eq]
  have h := (st_spec c i arg1 harg1 arg2 harg2 arg3 harg3 arg4 harg4 arg5 harg5 arg6 harg6 arg7 harg7 arg8 harg8 arg9 harg9 (tokAt x0 x1 x2) H _ le_rfl).2 s l b
  refine ⟨h.1.trans (and_congr_right fun _ => forall_congr' fun m => ?_), h.2.trans (and_congr_right fun _ => forall_congr' fun m => ?_)⟩
  all_goals
    have := m.isLt
    exact ⟨fun h => h (by omega), fun h _ => h⟩

end Cert.RotateIdeal.Block

end
-- ==== Proof.RotateCodes.lean ====
/-
  The quantiser of the rotation: the scale of a peak, and the codes as bytes of the words that hold four tokens each.
-/
module

public import proofs.«01_k».proof.Proof.RotateRows

@[expose] public section

set_option maxRecDepth 16384

noncomputable section

namespace Cert.RotateIdeal.Block

open Idealize.ShloMosaic Idealize.ShloMosaic.TcCoe Idealize.SL.Sem
open Cert.RotateIdeal Cert.RotateIdeal.Gen

/-- The scale of a peak. -/
def scale (a : EReal) : EReal := if a = 0 then 1 else Ideal.div a (Ideal.ofBits FTy.f32 0x40E00000#32)

/-- The code of a value at a scale, as a word. -/
def quant (z s : EReal) : BitVec 32 := FloatOps.fptosi (F := Ideal) (φ := .f32) 32
  (min (FloatOps.sitofp (F := Ideal) FTy.f32 7#32) (max (FloatOps.sitofp (F := Ideal) FTy.f32 4294967289#32)
    (Ideal.liftRound Ideal.roundHalfEven (Ideal.div z s))))

/-- The largest of the eight running peaks of a lane. -/
def top (a : Vec Ideal S8x256 .f32) (l : Fin 256) : EReal :=
  Finset.fold max (Ideal.ofBits FTy.f32 0xFF800000#32) (fun x : Fin 8 => a (ix2 x l)) Finset.univ

theorem pay22_apply (a : Vec Ideal S8x256 .f32) (l : Fin 256) : k0_pay22 (F := Ideal) a (ix2 0 l) = scale (top a l) := by
  pointwise [k0_pay22]
  rfl

theorem pay25_eq : k0_pay25 (F := Ideal) = k0_pay22 (F := Ideal) := rfl

theorem pay23_apply (a : Vec Ideal S8x256 .f32) (q : Fin 128) (l : Fin 256) (hl : l.val = 128 * 0 + q.val) : k0_pay23 (F := Ideal) a (ix2 0 q) = scale (top a l) := by
  refine Eq.trans ?_ (pay22_apply a l)
  pointwise [k0_pay23]
  exact congrArg (fun l => k0_pay22 (F := Ideal) a (ix2 0 l)) (Fin.ext (by show q.val = l.val; omega))

theorem pay24_apply (a : Vec Ideal S8x256 .f32) (q : Fin 128) (l : Fin 256) (hl : l.val = 128 * 1 + q.val) : k0_pay24 (F := Ideal) a (ix2 0 q) = scale (top a l) := by
  refine Eq.trans ?_ (pay22_apply a l)
  pointwise [k0_pay24]
  exact congrArg (fun l => k0_pay22 (F := Ideal) a (ix2 0 l)) (Fin.ext (by show 128 + q.val = l.val; omega))

theorem pay26_eq : k0_pay26 (F := Ideal) = k0_pay23 (F := Ideal) := rfl
theorem pay27_eq : k0_pay27 (F := Ideal) = k0_pay24 (F := Ideal) := rfl

/-- A row of scales laid out for the scales' block, -/
theorem pay1_apply (v : FVec Ideal S1x128 .f32) (q : Fin 128) : k0_pay1 (F := Ideal) v (ix3 0 0 q) = v (ix2 0 q) := by
  pointwise [k0_pay1]

/-- and spread over the lanes. -/
theorem pay2_apply (v : FVec Ideal S1x128 .f32) (q : Fin 120) (l : Fin 128) : k0_pay2 (F := Ideal) v (ix2 q l) = v (ix2 0 ⟨q.val, by omega⟩) := by
  pointwise [k0_pay2]

theorem pay3_eq : k0_pay3 (F := Ideal) = k0_pay1 (F := Ideal) := rfl
theorem pay5_eq : k0_pay5 (F := Ideal) = k0_pay1 (F := Ideal) := rfl
theorem pay4_eq : k0_pay4 (F := Ideal) = k0_pay2 (F := Ideal) := rfl
theorem pay6_eq : k0_pay6 (F := Ideal) = k0_pay2 (F := Ideal) := rfl
theorem pay28_eq (a : FVec Ideal S8x256 .f32) : k0_pay28 (F := Ideal) a = k0_pay1 (F := Ideal) (k0_pay23 a) := rfl
theorem pay29_eq (a : FVec Ideal S8x256 .f32) : k0_pay29 (F := Ideal) a = k0_pay2 (F := Ideal) (k0_pay23 a) := rfl

/-- The words before they are transposed: the codes of four tokens, a byte each. -/
def word (s0 s1 s2 s3 : Vec Ideal S1x128 .f32) (z0 z1 z2 z3 : Vec Ideal S1x128x128 .f32) : IVec S128x128 32 := fun i =>
  IntOp.ori (IntOp.ori (IntOp.ori (IntOp.shli ArithUnit.vector (IntOp.andi (quant (z0 (ix3 0 (i 0) (i 1))) (s0 (ix2 0 (i 1)))) 255#32) 0#32)
      (IntOp.shli ArithUnit.vector (IntOp.andi (quant (z1 (ix3 0 (i 0) (i 1))) (s1 (ix2 0 (i 1)))) 255#32) 8#32))
    (IntOp.shli ArithUnit.vector (IntOp.andi (quant (z2 (ix3 0 (i 0) (i 1))) (s2 (ix2 0 (i 1)))) 255#32) 16#32))
    (IntOp.shli ArithUnit.vector (IntOp.andi (quant (z3 (ix3 0 (i 0) (i 1))) (s3 (ix2 0 (i 1)))) 255#32) 24#32)

/-- The words of one trip, before their rows are taken and split. -/
def words (v23 : FVec Ideal S1x128 .f32) (v93 : IVec S128x128 32) (v97 v98 : FVec Ideal S128x128 .f32) (v115 : Vec Ideal S1x128x128 .f32) : IVec S128x128 32 :=
  ori (ori v93 (shli (andi (fptosi 32 (minimumf (broadcast S128x128 (Scalar.sitofp (F := Ideal) .f32 7#32)) (maximumf (broadcast S128x128 (Scalar.sitofp (F := Ideal) .f32 4294967289#32)) (roundeven (divf v97 v98))))) (broadcast S128x128 255#32)) (broadcast S128x128 16#32)))
    (shli (andi (fptosi 32 (minimumf (broadcast S128x128 (Scalar.sitofp (F := Ideal) .f32 7#32)) (maximumf (broadcast S128x128 (Scalar.sitofp (F := Ideal) .f32 4294967289#32)) (roundeven (divf (shapeCast S128x128 v115 shapeCasts_S1x128x128_S128x128) (broadcastTo S128x128 v23 broadcasts_S1x128_S128x128)))))) (broadcast S128x128 255#32)) (broadcast S128x128 24#32))

theorem pay7_eq (v23 : FVec Ideal S1x128 .f32) (v93 : IVec S128x128 32) (v97 v98 : FVec Ideal S128x128 .f32) (v115 : Vec Ideal S1x128x128 .f32) :
    k0_pay7 (F := Ideal) v23 v93 v97 v98 v115 = bitcast S480x128 8 (extractStridedSlice S120x128 ![0, 0] (transpose S128x128 [1, 0] (words v23 v93 v97 v98 v115) transposes_S128x128_p1_0_S128x128) slices_S128x128_o0_0_S120x128) bitcasts_S120x128_w32_S480x128_w8 := rfl

theorem words_apply (s0 s1 s2 s3 : Vec Ideal S1x128 .f32) (z0 z1 z2 z3 : Vec Ideal S1x128x128 .f32) (l q : Fin 128) :
    words s3 (k0_pay14 s0 s1 z0 z1) (k0_pay15 z2) (k0_pay16 s2) z3 (ix2 l q) = word s0 s1 s2 s3 z0 z1 z2 z3 (ix2 l q) := by
  pointwise [words, k0_pay14, k0_pay15, k0_pay16]
  rfl

/-- A byte of an array of words: bit `i` of the byte in row `p` is bit `8 (p mod 4) + i` of the word in row `p / 4`. -/
theorem byte_bit (y : S120x128.Idx → BitVec 32) (p : Fin 480) (l : Fin 128) (i : Nat) (hi : i < 8) :
    (bitcast S480x128 8 y bitcasts_S120x128_w32_S480x128_w8 (ix2 p l)).getLsbD i
      = (y (ix2 ⟨p.val / 4, by omega⟩ l)).getLsbD (8 * (p.val % 4) + i) := by
  rw [bitcast_getLsbD _ _ _ _ hi (by decide)]
  have hrow : S480x128.row (ix2 p l) = p.val := rfl
  have e : (S480x128.row (ix2 p l) * 8 + i) % 32 = 8 * (p.val % 4) + i := by rw [hrow]; omega
  rw [e]
  congr 2
  funext c
  match c with
  | ⟨0, _⟩ => exact Fin.ext ((Shape.Bitcasts.srcIdx_row _ _ _ _ ⟨0, Nat.zero_lt_two⟩ rfl).trans (by rw [hrow]; show (p.val * 8 + i) / 32 = p.val / 4; omega))
  | ⟨1, _⟩ => exact Fin.ext (Shape.Bitcasts.srcIdx_other _ _ _ _ ⟨1, Nat.one_lt_two⟩ (by show ¬ 1 + 2 = 2; omega))

theorem mask_bit (q : Nat) : (255#32).getLsbD q = decide (q < 8) := by
  by_cases h : q < 32
  · revert q; decide
  · rw [BitVec.getLsbD_of_ge _ _ (by omega)]; symm; exact decide_eq_false (by omega)

/-- Bit `i` of byte `p` of a word made of four bytes. -/
theorem word_bit (a0 a1 a2 a3 : BitVec 32) (p i : Nat) (hp : p < 4) (hi : i < 8) :
    ((((a0 &&& 255#32) <<< 0 ||| (a1 &&& 255#32) <<< 8) ||| (a2 &&& 255#32) <<< 16) ||| (a3 &&& 255#32) <<< 24).getLsbD (8 * p + i)
      = (if p = 0 then a0 else if p = 1 then a1 else if p = 2 then a2 else a3).getLsbD i := by
  simp only [BitVec.getLsbD_or, BitVec.getLsbD_shiftLeft, BitVec.getLsbD_and, mask_bit]
  rcases (by omega : p = 0 ∨ p = 1 ∨ p = 2 ∨ p = 3) with rfl | rfl | rfl | rfl
  all_goals
    have e1 : 8 * 1 + i - 8 = i := by omega
    have e2 : 8 * 2 + i - 16 = i := by omega
    have e3 : 8 * 3 + i - 24 = i := by omega
    interval_cases i <;> simp

/-- One trip's codes at an index: row `4 q + p` is byte `p` of the word of lane `q`. -/
theorem pay7_apply (s0 s1 s2 s3 : Vec Ideal S1x128 .f32) (z0 z1 z2 z3 : Vec Ideal S1x128x128 .f32) (r : Fin 480) (l : Fin 128) (q : Fin 128) (hq : q.val = r.val / 4) :
    k0_pay7 (F := Ideal) s3 (k0_pay14 s0 s1 z0 z1) (k0_pay15 z2) (k0_pay16 s2) z3 (ix2 r l)
      = BitVec.setWidth 8 (if r.val % 4 = 0 then quant (z0 (ix3 0 l q)) (s0 (ix2 0 q)) else if r.val % 4 = 1 then quant (z1 (ix3 0 l q)) (s1 (ix2 0 q))
        else if r.val % 4 = 2 then quant (z2 (ix3 0 l q)) (s2 (ix2 0 q)) else quant (z3 (ix3 0 l q)) (s3 (ix2 0 q))) := by
  rw [pay7_eq]
  apply BitVec.eq_of_getLsbD_eq
  intro i hi
  rw [byte_bit _ _ _ _ hi]
  have e : extractStridedSlice S120x128 ![0, 0] (transpose S128x128 [1, 0] (words s3 (k0_pay14 s0 s1 z0 z1) (k0_pay15 z2) (k0_pay16 s2) z3) transposes_S128x128_p1_0_S128x128) slices_S128x128_o0_0_S120x128 (ix2 ⟨r.val / 4, by omega⟩ l)
      = words s3 (k0_pay14 s0 s1 z0 z1) (k0_pay15 z2) (k0_pay16 s2) z3 (ix2 l q) := by
    generalize words s3 (k0_pay14 s0 s1 z0 z1) (k0_pay15 z2) (k0_pay16 s2) z3 = w
    refine Eq.trans ?_ (congrArg (fun q => w (ix2 l q)) (show (⟨r.val / 4, by omega⟩ : Fin 128) = q from Fin.ext hq.symm))
    pointwise
  rw [e, words_apply]
  refine (word_bit _ _ _ _ _ _ (Nat.mod_lt _ (by decide)) hi).trans ?_
  rw [BitVec.getLsbD_setWidth, decide_eq_true hi, Bool.true_and]
  rfl

/-- The block of codes at an index, from the rotated rows and the four rows of scales. -/
def codesAt (Z : Vec Ideal S2x7680x256 .f32) (s0 s1 s2 s3 : Vec Ideal S1x128 .f32) (r : Fin 480) (n : Fin 7680) : BitVec 8 :=
  BitVec.setWidth 8 (if r.val % 4 = 0 then quant (Z (ix3 0 n ⟨0 + r.val / 4, by omega⟩)) (s0 (ix2 0 ⟨r.val / 4, by omega⟩))
    else if r.val % 4 = 1 then quant (Z (ix3 0 n ⟨128 + r.val / 4, by omega⟩)) (s1 (ix2 0 ⟨r.val / 4, by omega⟩))
    else if r.val % 4 = 2 then quant (Z (ix3 1 n ⟨0 + r.val / 4, by omega⟩)) (s2 (ix2 0 ⟨r.val / 4, by omega⟩))
    else quant (Z (ix3 1 n ⟨128 + r.val / 4, by omega⟩)) (s3 (ix2 0 ⟨r.val / 4, by omega⟩)))

theorem ld_Z (Z : Vec Ideal S2x7680x256 .f32) (P N C k : Nat) (inb) (p : Fin 2) (hP : P = p.val) (hN : N = 128 * k) (hk : k < 60) (l q : Fin 128) (hC : C ≤ 128) :
    View.ld Z (Rect.unit (s := S2x7680x256) ![P, N, C] ![1, 128, 128] inb) (ix3 0 l q) = Z (ix3 p ⟨128 * k + l.val, by omega⟩ ⟨C + q.val, by omega⟩) := by
  subst hP hN
  refine congrArg Z (funext fun a => Fin.ext ?_)
  match a with
  | ⟨0, _⟩ => show p.val + 1 * 0 = p.val; omega
  | ⟨1, _⟩ => show 128 * k + 1 * l.val = 128 * k + l.val; omega
  | ⟨2, _⟩ => show C + 1 * q.val = C + q.val; omega

theorem four (r : Nat) (a0 a1 a2 a3 b0 b1 b2 b3 t0 t1 t2 t3 : EReal) (h0 : a0 = b0) (h1 : a1 = b1) (h2 : a2 = b2) (h3 : a3 = b3) :
    (if r % 4 = 0 then quant a0 t0 else if r % 4 = 1 then quant a1 t1 else if r % 4 = 2 then quant a2 t2 else quant a3 t3)
      = if r % 4 = 0 then quant b0 t0 else if r % 4 = 1 then quant b1 t1 else if r % 4 = 2 then quant b2 t2 else quant b3 t3 := by
  rw [h0, h1, h2, h3]

/-- The piece one trip of the packing loop stores holds the codes. -/
theorem codes_pieces (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (Z : Vec Ideal S2x7680x256 .f32) (s0 s1 s2 s3 : Vec Ideal S1x128 .f32) (k : Fin k0_t3_loop.trips) :
    ∀ p ∈ tripL_k0_t3 (F := Ideal) Variants.none c none i arg1 harg1 arg2 harg2 arg3 harg3 arg4 harg4 arg5 harg5 arg6 harg6 arg7 harg7 arg8 harg8 arg9 harg9 s0 s1 s2 s3 (harg9.unread Z) k,
      ∀ x : p.1.shape.Idx, p.2 x = codesAt Z s0 s1 s2 s3 (p.1.emb x 0) (p.1.emb x 1) := by
  have hk : k.val < 60 := Nat.lt_of_lt_of_le k.isLt k0_t3_abs.2.1
  have hiv : BitVec.toNat (Scalar.indexCast (Scalar.muli (Scf.iv 0#32 1#32 k.val) 128#32)) = 128 * k.val := congrFun (k0_off9_eq k) 1
  unfold tripL_k0_t3 trip_k0_t3
  dsimp only
  intro p hp x
  rw [List.mem_singleton] at hp
  subst hp
  sl_unfold_words
  simp only [View.readAt_eq_ld, harg9.read_unread]
  idx_vars x
  refine (pay7_apply _ _ _ _ _ _ _ _ x0 x1 ⟨x0.val / 4, by omega⟩ rfl).trans ?_
  have key : ∀ (r : Fin 480) (n : Fin 7680), r.val = x0.val → n.val = 128 * k.val + x1.val →
      codesAt Z s0 s1 s2 s3 r n = codesAt Z s0 s1 s2 s3 x0 ⟨128 * k.val + x1.val, by omega⟩ := fun r n h0 h1 => by
    rw [Fin.ext h0, show n = ⟨128 * k.val + x1.val, by omega⟩ from Fin.ext h1]
  refine Eq.trans ?_ (key _ _ (by show 0 + 1 * x0.val = _; omega) (by show BitVec.toNat (Scalar.indexCast (Scalar.muli (Scf.iv 0#32 1#32 k.val) 128#32)) + 1 * x1.val = _; rw [hiv]; omega)).symm
  exact congrArg (BitVec.setWidth 8) (four x0.val _ _ _ _ _ _ _ _ _ _ _ _ (ld_Z Z _ _ _ k.val _ 0 rfl hiv hk _ _ (by decide)) (ld_Z Z _ _ _ k.val _ 0 rfl hiv hk _ _ (by decide))
    (ld_Z Z _ _ _ k.val _ 1 rfl hiv hk _ _ (by decide)) (ld_Z Z _ _ _ k.val _ 1 rfl hiv hk _ _ (by decide)))

/-- The block of codes. -/
def codesG (Z : Vec Ideal S2x7680x256 .f32) (s0 s1 s2 s3 : FVec Ideal S1x128 .f32) : S480x7680.Idx → BitVec 8 := fun y => codesAt Z s0 s1 s2 s3 (y 0) (y 1)

/-- So do all the pieces of the trips before `n`. -/
theorem codes_pb (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (Z : Vec Ideal S2x7680x256 .f32) (s0 s1 s2 s3 : Vec Ideal S1x128 .f32) : ∀ n : ℕ,
    ∀ p ∈ pb_k0_t3 (F := Ideal) Variants.none c none i arg1 harg1 arg2 harg2 arg3 harg3 arg4 harg4 arg5 harg5 arg6 harg6 arg7 harg7 arg8 harg8 arg9 harg9 s0 s1 s2 s3 (harg9.unread Z) n,
      ∀ x : p.1.shape.Idx, p.2 x = codesG Z s0 s1 s2 s3 (p.1.emb x)
  | 0 => fun p hp => by rw [pb_k0_t3.eq_1] at hp; exact absurd hp List.not_mem_nil
  | n + 1 => fun p hp => by
    rw [pb_k0_t3.eq_2] at hp
    unfold pb_k0_t3Step at hp
    split at hp
    · rcases List.mem_append.mp hp with h | h
      · exact codes_pieces c i arg1 harg1 arg2 harg2 arg3 harg3 arg4 harg4 arg5 harg5 arg6 harg6 arg7 harg7 arg8 harg8 arg9 harg9 Z s0 s1 s2 s3 _ p h
      · exact codes_pb c i arg1 harg1 arg2 harg2 arg3 harg3 arg4 harg4 arg5 harg5 arg6 harg6 arg7 harg7 arg8 harg8 arg9 harg9 Z s0 s1 s2 s3 n p h
    · exact codes_pb c i arg1 harg1 arg2 harg2 arg3 harg3 arg4 harg4 arg5 harg5 arg6 harg6 arg7 harg7 arg8 harg8 arg9 harg9 Z s0 s1 s2 s3 n p hp

/-- One of four by number. -/
def pick {α : Type} (a0 a1 a2 a3 : α) (p : Nat) : α := if p = 0 then a0 else if p = 1 then a1 else if p = 2 then a2 else a3

/-- The scales spread over the lanes, -/
def spreadG (s0 s1 s2 s3 : FVec Ideal S1x128 .f32) : S480x128.Idx → EReal := fun y : S480x128.Idx => pick s0 s1 s2 s3 ((y 0).val % 4) (ix2 0 ⟨(y 0).val / 4, by have : (y 0).val < 480 := (y 0).isLt; omega⟩)
/-- and the scales' block. -/
def scalesG (s0 s1 s2 s3 : FVec Ideal S1x128 .f32) : S1x4x128.Idx → EReal := fun y : S1x4x128.Idx => pick s0 s1 s2 s3 (y 1).val (ix2 0 (y 2))

/-- The pieces of the scales spread over the lanes. -/
theorem spread_pieces (s0 s1 s2 s3 : FVec Ideal S1x128 .f32) :
    ∀ p ∈ ([⟨(⟨(⟨![3, 0], S120x128.size, ![4, 1], inb_S480x128_S120x128_3_0_s_4_1⟩ : LoadRect S480x128), spos_4_1⟩ : Rect S480x128), k0_pay2 (F := Ideal) s3⟩,
        ⟨(⟨(⟨![2, 0], S120x128.size, ![4, 1], inb_S480x128_S120x128_2_0_s_4_1⟩ : LoadRect S480x128), spos_4_1⟩ : Rect S480x128), k0_pay2 (F := Ideal) s2⟩,
        ⟨(⟨(⟨![1, 0], S120x128.size, ![4, 1], inb_S480x128_S120x128_1_0_s_4_1⟩ : LoadRect S480x128), spos_4_1⟩ : Rect S480x128), k0_pay2 (F := Ideal) s1⟩,
        ⟨(⟨(⟨![0, 0], S120x128.size, ![4, 1], inb_S480x128_S120x128_0_0_s_4_1⟩ : LoadRect S480x128), spos_4_1⟩ : Rect S480x128), k0_pay2 (F := Ideal) s0⟩] : List (View.Piece (Elt Ideal) S480x128 .f32)),
      ∀ x : p.1.shape.Idx, p.2 x = spreadG s0 s1 s2 s3 (p.1.emb x) := by
  intro p hp x
  simp only [List.mem_cons, List.not_mem_nil, or_false] at hp
  rcases hp with rfl | rfl | rfl | rfl
  all_goals
    idx_vars x
    refine (pay2_apply _ _ _).trans ?_
  · have e : (3 + 4 * x0.val) % 4 = 3 := by omega
    have e' : (3 + 4 * x0.val) / 4 = x0.val := by omega
    show s3 _ = pick s0 s1 s2 s3 ((3 + 4 * x0.val) % 4) (ix2 0 ⟨(3 + 4 * x0.val) / 4, _⟩)
    simp only [e, e']; rfl
  · have e : (2 + 4 * x0.val) % 4 = 2 := by omega
    have e' : (2 + 4 * x0.val) / 4 = x0.val := by omega
    show s2 _ = pick s0 s1 s2 s3 ((2 + 4 * x0.val) % 4) (ix2 0 ⟨(2 + 4 * x0.val) / 4, _⟩)
    simp only [e, e']; rfl
  · have e : (1 + 4 * x0.val) % 4 = 1 := by omega
    have e' : (1 + 4 * x0.val) / 4 = x0.val := by omega
    show s1 _ = pick s0 s1 s2 s3 ((1 + 4 * x0.val) % 4) (ix2 0 ⟨(1 + 4 * x0.val) / 4, _⟩)
    simp only [e, e']; rfl
  · have e : (0 + 4 * x0.val) % 4 = 0 := by omega
    have e' : (0 + 4 * x0.val) / 4 = x0.val := by omega
    show s0 _ = pick s0 s1 s2 s3 ((0 + 4 * x0.val) % 4) (ix2 0 ⟨(0 + 4 * x0.val) / 4, _⟩)
    simp only [e, e']; rfl

/-- The pieces of the scales' block. -/
theorem scales_pieces (s0 s1 s2 s3 : FVec Ideal S1x128 .f32) :
    ∀ p ∈ ([⟨(Rect.unit (s := S1x4x128) ![0, 3, 0] S1x1x128.size inb_S1x4x128_S1x1x128_0_3_0), k0_pay1 (F := Ideal) s3⟩, ⟨(Rect.unit (s := S1x4x128) ![0, 2, 0] S1x1x128.size inb_S1x4x128_S1x1x128_0_2_0), k0_pay1 (F := Ideal) s2⟩,
        ⟨(Rect.unit (s := S1x4x128) ![0, 1, 0] S1x1x128.size inb_S1x4x128_S1x1x128_0_1_0), k0_pay1 (F := Ideal) s1⟩, ⟨(Rect.unit (s := S1x4x128) ![0, 0, 0] S1x1x128.size inb_S1x4x128_S1x1x128_0_0_0), k0_pay1 (F := Ideal) s0⟩] : List (View.Piece (Elt Ideal) S1x4x128 .f32)),
      ∀ x : p.1.shape.Idx, p.2 x = scalesG s0 s1 s2 s3 (p.1.emb x) := by
  intro p hp x
  simp only [List.mem_cons, List.not_mem_nil, or_false] at hp
  rcases hp with rfl | rfl | rfl | rfl
  all_goals
    idx_vars x
    obtain rfl : x0 = 0 := Subsingleton.elim _ _
    obtain rfl : x1 = 0 := Subsingleton.elim _ _
    refine (pay1_apply _ _).trans ?_
  · exact congrArg s3 (congrArg (ix2 0) (Fin.ext (by show x2.val = 0 + 1 * x2.val; omega)))
  · exact congrArg s2 (congrArg (ix2 0) (Fin.ext (by show x2.val = 0 + 1 * x2.val; omega)))
  · exact congrArg s1 (congrArg (ix2 0) (Fin.ext (by show x2.val = 0 + 1 * x2.val; omega)))
  · exact congrArg s0 (congrArg (ix2 0) (Fin.ext (by show x2.val = 0 + 1 * x2.val; omega)))

/-- The peak of a token's rotated row. -/
def peak (z : Fin 7680 → EReal) : EReal :=
  Finset.fold max (Ideal.ofBits FTy.f32 0xFF800000#32) (fun n : Fin 7680 => FloatOps.absf (F := Ideal) (φ := .f32) (z n)) Finset.univ

theorem abs_nonneg' (z : EReal) : 0 ≤ max z (-z) := by
  rcases le_total 0 z with h | h
  · exact le_max_of_le_left h
  · exact le_max_of_le_right (by simpa using EReal.neg_le_neg_iff.mpr h)

/-- Eight running peaks, each over its rows from zero, together give the peak. -/
theorem top_eq (a : Vec Ideal S8x256 .f32) (l : Fin 256) (z : Fin 7680 → EReal)
    (h : ∀ (s : Fin 8) (b : EReal), (a (ix2 s l) : EReal) ≤ b ↔ 0 ≤ b ∧ ∀ m : Fin 7680, m.val % 8 = s.val → max (z m) (-(z m)) ≤ b) :
    top a l = peak z := by
  refine eq_of_forall_ge_iff fun b => ?_
  unfold top peak
  rw [Finset.fold_max_le, Finset.fold_max_le, neg_inf]
  refine and_congr_right fun _ => ?_
  constructor
  · intro h1 n _
    exact ((h ⟨n.val % 8, Nat.mod_lt _ (by decide)⟩ b).mp (h1 _ (Finset.mem_univ _))).2 n rfl
  · intro h1 s _
    exact (h s b).mpr ⟨(abs_nonneg' (z 0)).trans (h1 0 (Finset.mem_univ _)), fun m _ => h1 m (Finset.mem_univ _)⟩

/-- The rotated row of token `4 q + p` of a block. -/
def row (x0 x1 x2 : Vec Ideal S1x60x160x128 .bf16) (H : Vec Ideal S240x240 .bf16) (p q : Nat) (hp : p < 4) (hq : q < 128) (n : Fin 7680) : EReal :=
  rot (tokAt x0 x1 x2) H ⟨p / 2, by omega⟩ n ⟨128 * (p % 2) + q, by omega⟩

/-- The four rows of scales. -/
theorem scales_apply (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec Ideal S1x60x160x128 .bf16) (H : Vec Ideal S240x240 .bf16) (p : Nat) (hp : p < 4) (q : Fin 128) :
    pick (k0_pay23 (F := Ideal) (peaks (F := Ideal) c i arg1 harg1 arg2 harg2 arg3 harg3 arg4 harg4 arg5 harg5 arg6 harg6 arg7 harg7 arg8 harg8 arg9 harg9 x0 x1 x2 H).1) (k0_pay24 (peaks (F := Ideal) c i arg1 harg1 arg2 harg2 arg3 harg3 arg4 harg4 arg5 harg5 arg6 harg6 arg7 harg7 arg8 harg8 arg9 harg9 x0 x1 x2 H).1)
      (k0_pay26 (peaks (F := Ideal) c i arg1 harg1 arg2 harg2 arg3 harg3 arg4 harg4 arg5 harg5 arg6 harg6 arg7 harg7 arg8 harg8 arg9 harg9 x0 x1 x2 H).2) (k0_pay27 (peaks (F := Ideal) c i arg1 harg1 arg2 harg2 arg3 harg3 arg4 harg4 arg5 harg5 arg6 harg6 arg7 harg7 arg8 harg8 arg9 harg9 x0 x1 x2 H).2) p (ix2 0 q)
      = scale (peak (row x0 x1 x2 H p q.val hp q.isLt)) := by
  have hle := peaks_le c i arg1 harg1 arg2 harg2 arg3 harg3 arg4 harg4 arg5 harg5 arg6 harg6 arg7 harg7 arg8 harg8 arg9 harg9 x0 x1 x2 H
  generalize peaks (F := Ideal) c i arg1 harg1 arg2 harg2 arg3 harg3 arg4 harg4 arg5 harg5 arg6 harg6 arg7 harg7 arg8 harg8 arg9 harg9 x0 x1 x2 H = pk at hle ⊢
  rw [pay26_eq, pay27_eq]
  rcases (by omega : p = 0 ∨ p = 1 ∨ p = 2 ∨ p = 3) with rfl | rfl | rfl | rfl
  · exact (pay23_apply pk.1 q ⟨128 * 0 + q.val, by omega⟩ rfl).trans (congrArg scale (top_eq _ _ _ fun s b => (hle s _ b).1))
  · exact (pay24_apply pk.1 q ⟨128 * 1 + q.val, by omega⟩ rfl).trans (congrArg scale (top_eq _ _ _ fun s b => (hle s _ b).1))
  · exact (pay23_apply pk.2 q ⟨128 * 0 + q.val, by omega⟩ rfl).trans (congrArg scale (top_eq _ _ _ fun s b => (hle s _ b).2))
  · exact (pay24_apply pk.2 q ⟨128 * 1 + q.val, by omega⟩ rfl).trans (congrArg scale (top_eq _ _ _ fun s b => (hle s _ b).2))

theorem four_case {α : Type} (p : Nat) (hp : p < 4) (f : ∀ p, p < 4 → α) (a0 a1 a2 a3 : α) (h0 : a0 = f 0 (by decide)) (h1 : a1 = f 1 (by decide)) (h2 : a2 = f 2 (by decide)) (h3 : a3 = f 3 (by decide)) :
    (if p = 0 then a0 else if p = 1 then a1 else if p = 2 then a2 else a3) = f p hp := by
  rcases (by omega : p = 0 ∨ p = 1 ∨ p = 2 ∨ p = 3) with rfl | rfl | rfl | rfl
  · exact h0
  · exact h1
  · exact h2
  · exact h3

/-- The block of codes at an index. -/
theorem L4_apply (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec Ideal S1x60x160x128 .bf16) (H : Vec Ideal S240x240 .bf16) (r : Fin 480) (n : Fin 7680)
    (hcov : ∃ p ∈ L4 (F := Ideal) c i arg1 harg1 arg2 harg2 arg3 harg3 arg4 harg4 arg5 harg5 arg6 harg6 arg7 harg7 arg8 harg8 arg9 harg9 x0 x1 x2 H, (ix2 r n : S480x7680.Idx) ∈ p.1.set) :
    arg5.view.read (Elt Ideal) (arg5.view.writes (Elt Ideal) arg5.view.junk (L4 (F := Ideal) c i arg1 harg1 arg2 harg2 arg3 harg3 arg4 harg4 arg5 harg5 arg6 harg6 arg7 harg7 arg8 harg8 arg9 harg9 x0 x1 x2 H)) (ix2 r n)
      = BitVec.setWidth 8 (quant (row x0 x1 x2 H (r.val % 4) (r.val / 4) (Nat.mod_lt _ (by decide)) (by omega) n)
        (scale (peak (row x0 x1 x2 H (r.val % 4) (r.val / 4) (Nat.mod_lt _ (by decide)) (by omega))))) := by
  unfold L4 at hcov ⊢
  refine (View.read_writes_apply_of_pieces _ _ (codesG (Zv (F := Ideal) c i arg1 harg1 arg2 harg2 arg3 harg3 arg4 harg4 arg5 harg5 arg6 harg6 arg7 harg7 arg8 harg8 arg9 harg9 x0 x1 x2 H) (k0_pay23 (F := Ideal) (peaks (F := Ideal) c i arg1 harg1 arg2 harg2 arg3 harg3 arg4 harg4 arg5 harg5 arg6 harg6 arg7 harg7 arg8 harg8 arg9 harg9 x0 x1 x2 H).1) (k0_pay24 (peaks (F := Ideal) c i arg1 harg1 arg2 harg2 arg3 harg3 arg4 harg4 arg5 harg5 arg6 harg6 arg7 harg7 arg8 harg8 arg9 harg9 x0 x1 x2 H).1) (k0_pay26 (F := Ideal) (peaks (F := Ideal) c i arg1 harg1 arg2 harg2 arg3 harg3 arg4 harg4 arg5 harg5 arg6 harg6 arg7 harg7 arg8 harg8 arg9 harg9 x0 x1 x2 H).2) (k0_pay27 (peaks (F := Ideal) c i arg1 harg1 arg2 harg2 arg3 harg3 arg4 harg4 arg5 harg5 arg6 harg6 arg7 harg7 arg8 harg8 arg9 harg9 x0 x1 x2 H).2)) _
    (codes_pb c i arg1 harg1 arg2 harg2 arg3 harg3 arg4 harg4 arg5 harg5 arg6 harg6 arg7 harg7 arg8 harg8 arg9 harg9 _ _ _ _ _ _) (ix2 r n) hcov).trans ?_
  rw [Zv_eq]
  have hs := fun (p : Nat) (hp : p < 4) => scales_apply c i arg1 harg1 arg2 harg2 arg3 harg3 arg4 harg4 arg5 harg5 arg6 harg6 arg7 harg7 arg8 harg8 arg9 harg9 x0 x1 x2 H p hp ⟨r.val / 4, by omega⟩
  unfold codesG codesAt
  refine congrArg (BitVec.setWidth 8) ?_
  refine four_case (r.val % 4) (Nat.mod_lt _ (by decide)) (fun p hp => quant (row x0 x1 x2 H p (r.val / 4) hp (by omega) n) (scale (peak (row x0 x1 x2 H p (r.val / 4) hp (by omega))))) _ _ _ _ ?_ ?_ ?_ ?_
  · exact congrArg (quant _) (hs 0 (by decide))
  · exact congrArg (quant _) (hs 1 (by decide))
  · exact congrArg (quant _) (hs 2 (by decide))
  · exact congrArg (quant _) (hs 3 (by decide))

/-- The block of spread scales at an index. -/
theorem L5_apply (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec Ideal S1x60x160x128 .bf16) (H : Vec Ideal S240x240 .bf16) (r : Fin 480) (l : Fin 128)
    (hcov : ∃ p ∈ L5 (F := Ideal) c i arg1 harg1 arg2 harg2 arg3 harg3 arg4 harg4 arg5 harg5 arg6 harg6 arg7 harg7 arg8 harg8 arg9 harg9 x0 x1 x2 H, (ix2 r l : S480x128.Idx) ∈ p.1.set) :
    arg6.view.read (Elt Ideal) (arg6.view.writes (Elt Ideal) arg6.view.junk (L5 (F := Ideal) c i arg1 harg1 arg2 harg2 arg3 harg3 arg4 harg4 arg5 harg5 arg6 harg6 arg7 harg7 arg8 harg8 arg9 harg9 x0 x1 x2 H)) (ix2 r l)
      = scale (peak (row x0 x1 x2 H (r.val % 4) (r.val / 4) (Nat.mod_lt _ (by decide)) (by omega))) := by
  unfold L5 at hcov ⊢
  exact (View.read_writes_apply_of_pieces _ _ (spreadG (k0_pay23 (F := Ideal) (peaks (F := Ideal) c i arg1 harg1 arg2 harg2 arg3 harg3 arg4 harg4 arg5 harg5 arg6 harg6 arg7 harg7 arg8 harg8 arg9 harg9 x0 x1 x2 H).1) (k0_pay24 (peaks (F := Ideal) c i arg1 harg1 arg2 harg2 arg3 harg3 arg4 harg4 arg5 harg5 arg6 harg6 arg7 harg7 arg8 harg8 arg9 harg9 x0 x1 x2 H).1) (k0_pay26 (F := Ideal) (peaks (F := Ideal) c i arg1 harg1 arg2 harg2 arg3 harg3 arg4 harg4 arg5 harg5 arg6 harg6 arg7 harg7 arg8 harg8 arg9 harg9 x0 x1 x2 H).2) (k0_pay27 (peaks (F := Ideal) c i arg1 harg1 arg2 harg2 arg3 harg3 arg4 harg4 arg5 harg5 arg6 harg6 arg7 harg7 arg8 harg8 arg9 harg9 x0 x1 x2 H).2)) _ (spread_pieces _ _ _ _) (ix2 r l) hcov).trans
    (scales_apply c i arg1 harg1 arg2 harg2 arg3 harg3 arg4 harg4 arg5 harg5 arg6 harg6 arg7 harg7 arg8 harg8 arg9 harg9 x0 x1 x2 H _ (Nat.mod_lt _ (by decide)) ⟨r.val / 4, by omega⟩)

/-- The block of scales at an index. -/
theorem L6_apply (c : Dev nD) (i : grid0.Coords) (arg1 : Memref sig .tc .vmem S1x60x160x128 .bf16) (harg1 : arg1.IsWhole) (arg2 : Memref sig .tc .vmem S1x60x160x128 .bf16) (harg2 : arg2.IsWhole) (arg3 : Memref sig .tc .vmem S1x60x160x128 .bf16) (harg3 : arg3.IsWhole) (arg4 : Memref sig .tc .vmem S240x240 .bf16) (harg4 : arg4.IsWhole) (arg5 : Memref sig .tc .vmem S480x7680 .i8) (harg5 : arg5.IsWhole) (arg6 : Memref sig .tc .vmem S480x128 .f32) (harg6 : arg6.IsWhole) (arg7 : Memref sig .tc .vmem S1x4x128 .f32) (harg7 : arg7.IsWhole) (arg8 : Memref sig .tc .vmem S2x7680x2x128 .bf16) (harg8 : arg8.IsWhole) (arg9 : Memref sig .tc .vmem S2x7680x256 .f32) (harg9 : arg9.IsWhole) (x0 x1 x2 : Vec Ideal S1x60x160x128 .bf16) (H : Vec Ideal S240x240 .bf16) (p : Fin 4) (q : Fin 128)
    (hcov : ∃ pc ∈ L6 (F := Ideal) c i arg1 harg1 arg2 harg2 arg3 harg3 arg4 harg4 arg5 harg5 arg6 harg6 arg7 harg7 arg8 harg8 arg9 harg9 x0 x1 x2 H, (ix3 0 p q : S1x4x128.Idx) ∈ pc.1.set) :
    arg7.view.read (Elt Ideal) (arg7.view.writes (Elt Ideal) arg7.view.junk (L6 (F := Ideal) c i arg1 harg1 arg2 harg2 arg3 harg3 arg4 harg4 arg5 harg5 arg6 harg6 arg7 harg7 arg8 harg8 arg9 harg9 x0 x1 x2 H)) (ix3 0 p q)
      = scale (peak (row x0 x1 x2 H p.val q.val p.isLt q.isLt)) := by
  unfold L6 at hcov ⊢
  exact (View.read_writes_apply_of_pieces _ _ (scalesG (k0_pay23 (F := Ideal) (peaks (F := Ideal) c i arg1 harg1 arg2 harg2 arg3 harg3 arg4 harg4 arg5 harg5 arg6 harg6 arg7 harg7 arg8 harg8 arg9 harg9 x0 x1 x2 H).1) (k0_pay24 (peaks (F := Ideal) c i arg1 harg1 arg2 harg2 arg3 harg3 arg4 harg4 arg5 harg5 arg6 harg6 arg7 harg7 arg8 harg8 arg9 harg9 x0 x1 x2 H).1) (k0_pay26 (F := Ideal) (peaks (F := Ideal) c i arg1 harg1 arg2 harg2 arg3 harg3 arg4 harg4 arg5 harg5 arg6 harg6 arg7 harg7 arg8 harg8 arg9 harg9 x0 x1 x2 H).2) (k0_pay27 (peaks (F := Ideal) c i arg1 harg1 arg2 harg2 arg3 harg3 arg4 harg4 arg5 harg5 arg6 harg6 arg7 harg7 arg8 harg8 arg9 harg9 x0 x1 x2 H).2)) _ (scales_pieces _ _ _ _) (ix3 0 p q) hcov).trans
    (scales_apply c i arg1 harg1 arg2 harg2 arg3 harg3 arg4 harg4 arg5 harg5 arg6 harg6 arg7 harg7 arg8 harg8 arg9 harg9 x0 x1 x2 H _ p.isLt q)

end Cert.RotateIdeal.Block

end
-- ==== Proof.RotateArrays.lean ====
/-
  The arrays after the rotation's pipeline, by token: the codes, the scales spread over the lanes, and the scales' blocks.
-/
module

public import proofs.«01_k».proof.Proof.RotateCodes
public import proofs.«01_k».proof.Proof.RotateIdealFrame
public import Idealize.ShloMosaic.Lib.Tactic.ValueTie

@[expose] public section

set_option maxRecDepth 16384

noncomputable section

namespace Cert.RotateIdeal.Block

open Idealize.ShloMosaic Idealize.ShloMosaic.TcCoe Idealize.SL.Sem
open Cert.RotateIdeal Cert.RotateIdeal.Gen

variable (m : (ℓ : Loc nD τ sig) → Buf (Elt Ideal) ℓ) (c : Dev nD)

theorem idx0 : ∀ t, win0_0.index t = ![(3 * t.val + 0) / 4, 0, (3 * t.val + 0) % 4, 0] := by decide +kernel
theorem idx1 : ∀ t, win0_1.index t = ![(3 * t.val + 1) / 4, 0, (3 * t.val + 1) % 4, 0] := by decide +kernel
theorem idx2 : ∀ t, win0_2.index t = ![(3 * t.val + 2) / 4, 0, (3 * t.val + 2) % 4, 0] := by decide +kernel
theorem idx3 : ∀ t, win0_3.index t = ![0, 0] := by decide +kernel
theorem idx4 : ∀ t, win0_4.index t = ![t.val, 0] := by decide +kernel
theorem idx5 : ∀ t, win0_5.index t = ![t.val, 0] := by decide +kernel
theorem idx6 : ∀ t, win0_6.index t = ![t.val, 0, 0] := by decide +kernel

theorem pt_lt (t : Fin cfg0.N) : t.val < 4 := lt_of_lt_of_eq t.isLt N_0

/-- The activations as launched. -/
abbrev acts : Vec Ideal S3x640x128x60 .bf16 := m ((c : Thread nD τ).loc main_arg0)

theorem V0_apply (b : Fin 3) (h : Fin 60) (s : Fin 640) (d : Fin 128) : (V m c main_v0 : S3x60x640x128.Idx → EReal) (ix4 b h s d) = acts m c (ix4 b s d h) := by
  have e : V m c main_v0 = (transpose S3x60x640x128 [0, 3, 1, 2] (acts m c) transposes_S3x640x128x60_S3x60x640x128_0_3_1_2 : S3x60x640x128.Idx → EReal) := by
    show StableHlo.after [_, _] (fun b => m (c, b)) (Proc.tc.devRef main_v0) = _
    after_results_simp <;> rfl
  rw [e]
  pointwise

theorem iblk0_apply (t : Fin cfg0.N) (h : Fin 60) (j : Fin 160) (d : Fin 128) (b : Fin 3) (s : Fin 640)
    (hb : b.val = (3 * t.val + 0) / 4) (hs : s.val = (3 * t.val + 0) % 4 * 160 + j.val) : (iblk m c 0 t : S1x60x160x128.Idx → EReal) (ix4 0 h j d) = acts m c (ix4 b s d h) := by
  have e : ((cfg0.win 0).blk t).view.emb (ix4 0 h j d) = ix4 b h s d := by blk_ext [idx0 t]
  exact (congrArg (V m c main_v0) e).trans (V0_apply m c b h s d)

theorem iblk1_apply (t : Fin cfg0.N) (h : Fin 60) (j : Fin 160) (d : Fin 128) (b : Fin 3) (s : Fin 640)
    (hb : b.val = (3 * t.val + 1) / 4) (hs : s.val = (3 * t.val + 1) % 4 * 160 + j.val) : (iblk m c 1 t : S1x60x160x128.Idx → EReal) (ix4 0 h j d) = acts m c (ix4 b s d h) := by
  have e : ((cfg0.win 1).blk t).view.emb (ix4 0 h j d) = ix4 b h s d := by blk_ext [idx1 t]
  exact (congrArg (V m c main_v0) e).trans (V0_apply m c b h s d)

theorem iblk2_apply (t : Fin cfg0.N) (h : Fin 60) (j : Fin 160) (d : Fin 128) (b : Fin 3) (s : Fin 640)
    (hb : b.val = (3 * t.val + 2) / 4) (hs : s.val = (3 * t.val + 2) % 4 * 160 + j.val) : (iblk m c 2 t : S1x60x160x128.Idx → EReal) (ix4 0 h j d) = acts m c (ix4 b s d h) := by
  have e : ((cfg0.win 2).blk t).view.emb (ix4 0 h j d) = ix4 b h s d := by blk_ext [idx2 t]
  exact (congrArg (V m c main_v0) e).trans (V0_apply m c b h s d)

/-- Every point's table of signs is the literal. -/
theorem iblk3_apply (t : Fin cfg0.N) (a b : Fin 240) : (iblk m c 3 t : S240x240.Idx → EReal) (ix2 a b) = Ideal.ofBits FTy.bf16 (lit0 ⟨240 * a.val + b.val, by omega⟩) := by
  have e : ((cfg0.win 3).blk t).view.emb (ix2 a b) = ix2 a b := by blk_ext [idx3 t]
  refine (congrArg (V m c main_cst) e).trans ?_
  have e2 : V m c main_cst = (fun i => FloatOps.ofBits (F := Ideal) .bf16 (lit0 (S240x240.rowMajor i)) : S240x240.Idx → EReal) := by
    show StableHlo.after [_, _] (fun b => m (c, b)) (Proc.tc.devRef main_cst) = _
    after_results_simp <;> rfl
  rw [e2]
  exact congrArg (fun q => Ideal.ofBits FTy.bf16 (lit0 q)) (Fin.ext (by rw [Shape.rowMajor_val_two]; show a.val * 240 + b.val = 240 * a.val + b.val; omega))

/-- The rotated row of a token by its number. -/
def krow (r : Fin 1920) : Fin 7680 → EReal :=
  row (iblk m c 0 ⟨r.val / 480, lt_of_lt_of_eq (by omega) N_0.symm⟩) (iblk m c 1 ⟨r.val / 480, lt_of_lt_of_eq (by omega) N_0.symm⟩) (iblk m c 2 ⟨r.val / 480, lt_of_lt_of_eq (by omega) N_0.symm⟩) (iblk m c 3 ⟨r.val / 480, lt_of_lt_of_eq (by omega) N_0.symm⟩)
    (r.val % 480 % 4) (r.val % 480 / 4) (Nat.mod_lt _ (by decide)) (by omega)

theorem krow_at (t : Fin cfg0.N) (p q : Nat) (hp : p < 4) (hq : q < 120) (r : Fin 1920) (hr : r.val = 480 * t.val + 4 * q + p) :
    row (iblk m c 0 t) (iblk m c 1 t) (iblk m c 2 t) (iblk m c 3 t) p q hp (by omega) = krow m c r := by
  have e1 : r.val / 480 = t.val := by omega
  have e2 : r.val % 480 % 4 = p := by omega
  have e3 : r.val % 480 / 4 = q := by omega
  subst e2 e3
  obtain rfl : t = ⟨r.val / 480, lt_of_lt_of_eq (Nat.div_lt_of_lt_mul (show r.val < 480 * 4 from r.isLt)) N_0.symm⟩ := Fin.ext e1.symm
  rfl

def G4 : S1920x7680.Idx → BitVec 8 := fun y => BitVec.setWidth 8 (quant (krow m c (y 0) (y 1)) (scale (peak (krow m c (y 0)))))
def G5 : S1920x128.Idx → EReal := fun y => scale (peak (krow m c (y 0)))
def G6 : S4x4x128.Idx → EReal := fun y => scale (peak (row (iblk m c 0 ⟨(y 0).val, lt_of_lt_of_eq (y 0).isLt N_0.symm⟩) (iblk m c 1 ⟨(y 0).val, lt_of_lt_of_eq (y 0).isLt N_0.symm⟩) (iblk m c 2 ⟨(y 0).val, lt_of_lt_of_eq (y 0).isLt N_0.symm⟩) (iblk m c 3 ⟨(y 0).val, lt_of_lt_of_eq (y 0).isLt N_0.symm⟩) (y 1).val (y 2).val (y 1).isLt (y 2).isLt))

theorem out4_apply (t : Fin cfg0.N) (r : Fin 480) (n : Fin 7680) : out4 m c t (ix2 r n) = G4 m c (ix2 ⟨480 * t.val + r.val, by have := pt_lt t; omega⟩ n) := by
  refine (L4_apply c _ _ _ _ _ _ _ _ _ _ _ _ _ _ _ _ _ _ _ _ _ _ _ r n (L4_cover c _ _ _ _ _ _ _ _ _ _ _ _ _ _ _ _ _ _ _ _ _ _ _ _)).trans ?_
  rw [krow_at m c t _ _ _ (by omega) ⟨480 * t.val + r.val, by have := pt_lt t; omega⟩ (by simp only; omega)]
  rfl

theorem out5_apply (t : Fin cfg0.N) (r : Fin 480) (l : Fin 128) : out5 m c t (ix2 r l) = G5 m c (ix2 ⟨480 * t.val + r.val, by have := pt_lt t; omega⟩ l) := by
  refine (L5_apply c _ _ _ _ _ _ _ _ _ _ _ _ _ _ _ _ _ _ _ _ _ _ _ r l (L5_cover c _ _ _ _ _ _ _ _ _ _ _ _ _ _ _ _ _ _ _ _ _ _ _ _)).trans ?_
  rw [krow_at m c t _ _ _ (by omega) ⟨480 * t.val + r.val, by have := pt_lt t; omega⟩ (by simp only; omega)]
  rfl

theorem out6_apply (t : Fin cfg0.N) (p : Fin 4) (q : Fin 128) : out6 m c t (ix3 0 p q) = G6 m c (ix3 ⟨t.val, pt_lt t⟩ p q) :=
  L6_apply c _ _ _ _ _ _ _ _ _ _ _ _ _ _ _ _ _ _ _ _ _ _ _ p q (L6_cover c _ _ _ _ _ _ _ _ _ _ _ _ _ _ _ _ _ _ _ _ _ _ _ _)

theorem arr4 : (dats m 0 c).arrAt 4 (cfgs 0).N = G4 m c := by
  refine (dats m 0 c).arrAt_eq_of_covers 4 _ (by decide +kernel) fun t hf y => ?_
  rw [after0_4]
  idx_vars y
  have e : ((cfg0.win 4).blk t).view.emb (ix2 y0 y1) = ix2 ⟨480 * t.val + y0.val, by have := pt_lt t; omega⟩ y1 := by blk_ext [idx4 t]
  exact (out4_apply m c t y0 y1).trans (congrArg (G4 m c) e.symm)

theorem arr5 : (dats m 0 c).arrAt 5 (cfgs 0).N = G5 m c := by
  refine (dats m 0 c).arrAt_eq_of_covers 5 _ (by decide +kernel) fun t hf y => ?_
  rw [after0_5]
  idx_vars y
  have e : ((cfg0.win 5).blk t).view.emb (ix2 y0 y1) = ix2 ⟨480 * t.val + y0.val, by have := pt_lt t; omega⟩ y1 := by blk_ext [idx5 t]
  exact (out5_apply m c t y0 y1).trans (congrArg (G5 m c) e.symm)

theorem arr6 : (dats m 0 c).arrAt 6 (cfgs 0).N = G6 m c := by
  refine (dats m 0 c).arrAt_eq_of_covers 6 _ (by decide +kernel) fun t hf y => ?_
  rw [after0_6]
  idx_vars y
  obtain rfl : y0 = 0 := Subsingleton.elim _ _
  have e : ((cfg0.win 6).blk t).view.emb (ix3 0 y1 y2) = ix3 ⟨t.val, pt_lt t⟩ y1 y2 := by blk_ext [idx6 t]
  exact (out6_apply m c t y1 y2).trans (congrArg (G6 m c) e.symm)

end Cert.RotateIdeal.Block

end
-- ==== Proof.RotateLit0.lean ====
/-
  Rows 0 to 29 of the kernel's table of signs: copies of the reference's table, transposed, along the diagonal.
-/
module

public import proofs.«01_k».proof.RotateIdeal
public import proofs.«01_k».proof.RotateRefIdeal

@[expose] public section

set_option maxRecDepth 16384

noncomputable section

namespace Cert.RotateLit

open Idealize.ShloMosaic

theorem rows_0 : ∀ (r : Fin 5) (x : Fin 240), Cert.RotateIdeal.lit0 ⟨240 * (0 + r.val) + x.val, by omega⟩
    = if x.val / 60 = (0 + r.val) / 60 then
        (if Cert.RotateRefIdeal.lit0 ⟨60 * (x.val % 60) + (0 + r.val) % 60, by omega⟩ = 0x3F800000#32 then 0x3F80#16 else 0xBF80#16)
      else 0#16 := by decide +kernel

theorem rows_5 : ∀ (r : Fin 5) (x : Fin 240), Cert.RotateIdeal.lit0 ⟨240 * (5 + r.val) + x.val, by omega⟩
    = if x.val / 60 = (5 + r.val) / 60 then
        (if Cert.RotateRefIdeal.lit0 ⟨60 * (x.val % 60) + (5 + r.val) % 60, by omega⟩ = 0x3F800000#32 then 0x3F80#16 else 0xBF80#16)
      else 0#16 := by decide +kernel

theorem rows_10 : ∀ (r : Fin 5) (x : Fin 240), Cert.RotateIdeal.lit0 ⟨240 * (10 + r.val) + x.val, by omega⟩
    = if x.val / 60 = (10 + r.val) / 60 then
        (if Cert.RotateRefIdeal.lit0 ⟨60 * (x.val % 60) + (10 + r.val) % 60, by omega⟩ = 0x3F800000#32 then 0x3F80#16 else 0xBF80#16)
      else 0#16 := by decide +kernel

theorem rows_15 : ∀ (r : Fin 5) (x : Fin 240), Cert.RotateIdeal.lit0 ⟨240 * (15 + r.val) + x.val, by omega⟩
    = if x.val / 60 = (15 + r.val) / 60 then
        (if Cert.RotateRefIdeal.lit0 ⟨60 * (x.val % 60) + (15 + r.val) % 60, by omega⟩ = 0x3F800000#32 then 0x3F80#16 else 0xBF80#16)
      else 0#16 := by decide +kernel

theorem rows_20 : ∀ (r : Fin 5) (x : Fin 240), Cert.RotateIdeal.lit0 ⟨240 * (20 + r.val) + x.val, by omega⟩
    = if x.val / 60 = (20 + r.val) / 60 then
        (if Cert.RotateRefIdeal.lit0 ⟨60 * (x.val % 60) + (20 + r.val) % 60, by omega⟩ = 0x3F800000#32 then 0x3F80#16 else 0xBF80#16)
      else 0#16 := by decide +kernel

theorem rows_25 : ∀ (r : Fin 5) (x : Fin 240), Cert.RotateIdeal.lit0 ⟨240 * (25 + r.val) + x.val, by omega⟩
    = if x.val / 60 = (25 + r.val) / 60 then
        (if Cert.RotateRefIdeal.lit0 ⟨60 * (x.val % 60) + (25 + r.val) % 60, by omega⟩ = 0x3F800000#32 then 0x3F80#16 else 0xBF80#16)
      else 0#16 := by decide +kernel

end Cert.RotateLit

end
-- ==== Proof.RotateLit1.lean ====
/-
  Rows 30 to 59 of the kernel's table of signs: copies of the reference's table, transposed, along the diagonal.
-/
module

public import proofs.«01_k».proof.RotateIdeal
public import proofs.«01_k».proof.RotateRefIdeal

@[expose] public section

set_option maxRecDepth 16384

noncomputable section

namespace Cert.RotateLit

open Idealize.ShloMosaic

theorem rows_30 : ∀ (r : Fin 5) (x : Fin 240), Cert.RotateIdeal.lit0 ⟨240 * (30 + r.val) + x.val, by omega⟩
    = if x.val / 60 = (30 + r.val) / 60 then
        (if Cert.RotateRefIdeal.lit0 ⟨60 * (x.val % 60) + (30 + r.val) % 60, by omega⟩ = 0x3F800000#32 then 0x3F80#16 else 0xBF80#16)
      else 0#16 := by decide +kernel

theorem rows_35 : ∀ (r : Fin 5) (x : Fin 240), Cert.RotateIdeal.lit0 ⟨240 * (35 + r.val) + x.val, by omega⟩
    = if x.val / 60 = (35 + r.val) / 60 then
        (if Cert.RotateRefIdeal.lit0 ⟨60 * (x.val % 60) + (35 + r.val) % 60, by omega⟩ = 0x3F800000#32 then 0x3F80#16 else 0xBF80#16)
      else 0#16 := by decide +kernel

theorem rows_40 : ∀ (r : Fin 5) (x : Fin 240), Cert.RotateIdeal.lit0 ⟨240 * (40 + r.val) + x.val, by omega⟩
    = if x.val / 60 = (40 + r.val) / 60 then
        (if Cert.RotateRefIdeal.lit0 ⟨60 * (x.val % 60) + (40 + r.val) % 60, by omega⟩ = 0x3F800000#32 then 0x3F80#16 else 0xBF80#16)
      else 0#16 := by decide +kernel

theorem rows_45 : ∀ (r : Fin 5) (x : Fin 240), Cert.RotateIdeal.lit0 ⟨240 * (45 + r.val) + x.val, by omega⟩
    = if x.val / 60 = (45 + r.val) / 60 then
        (if Cert.RotateRefIdeal.lit0 ⟨60 * (x.val % 60) + (45 + r.val) % 60, by omega⟩ = 0x3F800000#32 then 0x3F80#16 else 0xBF80#16)
      else 0#16 := by decide +kernel

theorem rows_50 : ∀ (r : Fin 5) (x : Fin 240), Cert.RotateIdeal.lit0 ⟨240 * (50 + r.val) + x.val, by omega⟩
    = if x.val / 60 = (50 + r.val) / 60 then
        (if Cert.RotateRefIdeal.lit0 ⟨60 * (x.val % 60) + (50 + r.val) % 60, by omega⟩ = 0x3F800000#32 then 0x3F80#16 else 0xBF80#16)
      else 0#16 := by decide +kernel

theorem rows_55 : ∀ (r : Fin 5) (x : Fin 240), Cert.RotateIdeal.lit0 ⟨240 * (55 + r.val) + x.val, by omega⟩
    = if x.val / 60 = (55 + r.val) / 60 then
        (if Cert.RotateRefIdeal.lit0 ⟨60 * (x.val % 60) + (55 + r.val) % 60, by omega⟩ = 0x3F800000#32 then 0x3F80#16 else 0xBF80#16)
      else 0#16 := by decide +kernel

end Cert.RotateLit

end
-- ==== Proof.RotateLit2.lean ====
/-
  Rows 60 to 89 of the kernel's table of signs: copies of the reference's table, transposed, along the diagonal.
-/
module

public import proofs.«01_k».proof.RotateIdeal
public import proofs.«01_k».proof.RotateRefIdeal

@[expose] public section

set_option maxRecDepth 16384

noncomputable section

namespace Cert.RotateLit

open Idealize.ShloMosaic

theorem rows_60 : ∀ (r : Fin 5) (x : Fin 240), Cert.RotateIdeal.lit0 ⟨240 * (60 + r.val) + x.val, by omega⟩
    = if x.val / 60 = (60 + r.val) / 60 then
        (if Cert.RotateRefIdeal.lit0 ⟨60 * (x.val % 60) + (60 + r.val) % 60, by omega⟩ = 0x3F800000#32 then 0x3F80#16 else 0xBF80#16)
      else 0#16 := by decide +kernel

theorem rows_65 : ∀ (r : Fin 5) (x : Fin 240), Cert.RotateIdeal.lit0 ⟨240 * (65 + r.val) + x.val, by omega⟩
    = if x.val / 60 = (65 + r.val) / 60 then
        (if Cert.RotateRefIdeal.lit0 ⟨60 * (x.val % 60) + (65 + r.val) % 60, by omega⟩ = 0x3F800000#32 then 0x3F80#16 else 0xBF80#16)
      else 0#16 := by decide +kernel

theorem rows_70 : ∀ (r : Fin 5) (x : Fin 240), Cert.RotateIdeal.lit0 ⟨240 * (70 + r.val) + x.val, by omega⟩
    = if x.val / 60 = (70 + r.val) / 60 then
        (if Cert.RotateRefIdeal.lit0 ⟨60 * (x.val % 60) + (70 + r.val) % 60, by omega⟩ = 0x3F800000#32 then 0x3F80#16 else 0xBF80#16)
      else 0#16 := by decide +kernel

theorem rows_75 : ∀ (r : Fin 5) (x : Fin 240), Cert.RotateIdeal.lit0 ⟨240 * (75 + r.val) + x.val, by omega⟩
    = if x.val / 60 = (75 + r.val) / 60 then
        (if Cert.RotateRefIdeal.lit0 ⟨60 * (x.val % 60) + (75 + r.val) % 60, by omega⟩ = 0x3F800000#32 then 0x3F80#16 else 0xBF80#16)
      else 0#16 := by decide +kernel

theorem rows_80 : ∀ (r : Fin 5) (x : Fin 240), Cert.RotateIdeal.lit0 ⟨240 * (80 + r.val) + x.val, by omega⟩
    = if x.val / 60 = (80 + r.val) / 60 then
        (if Cert.RotateRefIdeal.lit0 ⟨60 * (x.val % 60) + (80 + r.val) % 60, by omega⟩ = 0x3F800000#32 then 0x3F80#16 else 0xBF80#16)
      else 0#16 := by decide +kernel

theorem rows_85 : ∀ (r : Fin 5) (x : Fin 240), Cert.RotateIdeal.lit0 ⟨240 * (85 + r.val) + x.val, by omega⟩
    = if x.val / 60 = (85 + r.val) / 60 then
        (if Cert.RotateRefIdeal.lit0 ⟨60 * (x.val % 60) + (85 + r.val) % 60, by omega⟩ = 0x3F800000#32 then 0x3F80#16 else 0xBF80#16)
      else 0#16 := by decide +kernel

end Cert.RotateLit

end
-- ==== Proof.RotateLit3.lean ====
/-
  Rows 90 to 119 of the kernel's table of signs: copies of the reference's table, transposed, along the diagonal.
-/
module

public import proofs.«01_k».proof.RotateIdeal
public import proofs.«01_k».proof.RotateRefIdeal

@[expose] public section

set_option maxRecDepth 16384

noncomputable section

namespace Cert.RotateLit

open Idealize.ShloMosaic

theorem rows_90 : ∀ (r : Fin 5) (x : Fin 240), Cert.RotateIdeal.lit0 ⟨240 * (90 + r.val) + x.val, by omega⟩
    = if x.val / 60 = (90 + r.val) / 60 then
        (if Cert.RotateRefIdeal.lit0 ⟨60 * (x.val % 60) + (90 + r.val) % 60, by omega⟩ = 0x3F800000#32 then 0x3F80#16 else 0xBF80#16)
      else 0#16 := by decide +kernel

theorem rows_95 : ∀ (r : Fin 5) (x : Fin 240), Cert.RotateIdeal.lit0 ⟨240 * (95 + r.val) + x.val, by omega⟩
    = if x.val / 60 = (95 + r.val) / 60 then
        (if Cert.RotateRefIdeal.lit0 ⟨60 * (x.val % 60) + (95 + r.val) % 60, by omega⟩ = 0x3F800000#32 then 0x3F80#16 else 0xBF80#16)
      else 0#16 := by decide +kernel

theorem rows_100 : ∀ (r : Fin 5) (x : Fin 240), Cert.RotateIdeal.lit0 ⟨240 * (100 + r.val) + x.val, by omega⟩
    = if x.val / 60 = (100 + r.val) / 60 then
        (if Cert.RotateRefIdeal.lit0 ⟨60 * (x.val % 60) + (100 + r.val) % 60, by omega⟩ = 0x3F800000#32 then 0x3F80#16 else 0xBF80#16)
      else 0#16 := by decide +kernel

theorem rows_105 : ∀ (r : Fin 5) (x : Fin 240), Cert.RotateIdeal.lit0 ⟨240 * (105 + r.val) + x.val, by omega⟩
    = if x.val / 60 = (105 + r.val) / 60 then
        (if Cert.RotateRefIdeal.lit0 ⟨60 * (x.val % 60) + (105 + r.val) % 60, by omega⟩ = 0x3F800000#32 then 0x3F80#16 else 0xBF80#16)
      else 0#16 := by decide +kernel

theorem rows_110 : ∀ (r : Fin 5) (x : Fin 240), Cert.RotateIdeal.lit0 ⟨240 * (110 + r.val) + x.val, by omega⟩
    = if x.val / 60 = (110 + r.val) / 60 then
        (if Cert.RotateRefIdeal.lit0 ⟨60 * (x.val % 60) + (110 + r.val) % 60, by omega⟩ = 0x3F800000#32 then 0x3F80#16 else 0xBF80#16)
      else 0#16 := by decide +kernel

theorem rows_115 : ∀ (r : Fin 5) (x : Fin 240), Cert.RotateIdeal.lit0 ⟨240 * (115 + r.val) + x.val, by omega⟩
    = if x.val / 60 = (115 + r.val) / 60 then
        (if Cert.RotateRefIdeal.lit0 ⟨60 * (x.val % 60) + (115 + r.val) % 60, by omega⟩ = 0x3F800000#32 then 0x3F80#16 else 0xBF80#16)
      else 0#16 := by decide +kernel

end Cert.RotateLit

end
-- ==== Proof.RotateLit4.lean ====
/-
  Rows 120 to 149 of the kernel's table of signs: copies of the reference's table, transposed, along the diagonal.
-/
module

public import proofs.«01_k».proof.RotateIdeal
public import proofs.«01_k».proof.RotateRefIdeal

@[expose] public section

set_option maxRecDepth 16384

noncomputable section

namespace Cert.RotateLit

open Idealize.ShloMosaic

theorem rows_120 : ∀ (r : Fin 5) (x : Fin 240), Cert.RotateIdeal.lit0 ⟨240 * (120 + r.val) + x.val, by omega⟩
    = if x.val / 60 = (120 + r.val) / 60 then
        (if Cert.RotateRefIdeal.lit0 ⟨60 * (x.val % 60) + (120 + r.val) % 60, by omega⟩ = 0x3F800000#32 then 0x3F80#16 else 0xBF80#16)
      else 0#16 := by decide +kernel

theorem rows_125 : ∀ (r : Fin 5) (x : Fin 240), Cert.RotateIdeal.lit0 ⟨240 * (125 + r.val) + x.val, by omega⟩
    = if x.val / 60 = (125 + r.val) / 60 then
        (if Cert.RotateRefIdeal.lit0 ⟨60 * (x.val % 60) + (125 + r.val) % 60, by omega⟩ = 0x3F800000#32 then 0x3F80#16 else 0xBF80#16)
      else 0#16 := by decide +kernel

theorem rows_130 : ∀ (r : Fin 5) (x : Fin 240), Cert.RotateIdeal.lit0 ⟨240 * (130 + r.val) + x.val, by omega⟩
    = if x.val / 60 = (130 + r.val) / 60 then
        (if Cert.RotateRefIdeal.lit0 ⟨60 * (x.val % 60) + (130 + r.val) % 60, by omega⟩ = 0x3F800000#32 then 0x3F80#16 else 0xBF80#16)
      else 0#16 := by decide +kernel

theorem rows_135 : ∀ (r : Fin 5) (x : Fin 240), Cert.RotateIdeal.lit0 ⟨240 * (135 + r.val) + x.val, by omega⟩
    = if x.val / 60 = (135 + r.val) / 60 then
        (if Cert.RotateRefIdeal.lit0 ⟨60 * (x.val % 60) + (135 + r.val) % 60, by omega⟩ = 0x3F800000#32 then 0x3F80#16 else 0xBF80#16)
      else 0#16 := by decide +kernel

theorem rows_140 : ∀ (r : Fin 5) (x : Fin 240), Cert.RotateIdeal.lit0 ⟨240 * (140 + r.val) + x.val, by omega⟩
    = if x.val / 60 = (140 + r.val) / 60 then
        (if Cert.RotateRefIdeal.lit0 ⟨60 * (x.val % 60) + (140 + r.val) % 60, by omega⟩ = 0x3F800000#32 then 0x3F80#16 else 0xBF80#16)
      else 0#16 := by decide +kernel

theorem rows_145 : ∀ (r : Fin 5) (x : Fin 240), Cert.RotateIdeal.lit0 ⟨240 * (145 + r.val) + x.val, by omega⟩
    = if x.val / 60 = (145 + r.val) / 60 then
        (if Cert.RotateRefIdeal.lit0 ⟨60 * (x.val % 60) + (145 + r.val) % 60, by omega⟩ = 0x3F800000#32 then 0x3F80#16 else 0xBF80#16)
      else 0#16 := by decide +kernel

end Cert.RotateLit

end
-- ==== Proof.RotateLit5.lean ====
/-
  Rows 150 to 179 of the kernel's table of signs: copies of the reference's table, transposed, along the diagonal.
-/
module

public import proofs.«01_k».proof.RotateIdeal
public import proofs.«01_k».proof.RotateRefIdeal

@[expose] public section

set_option maxRecDepth 16384

noncomputable section

namespace Cert.RotateLit

open Idealize.ShloMosaic

theorem rows_150 : ∀ (r : Fin 5) (x : Fin 240), Cert.RotateIdeal.lit0 ⟨240 * (150 + r.val) + x.val, by omega⟩
    = if x.val / 60 = (150 + r.val) / 60 then
        (if Cert.RotateRefIdeal.lit0 ⟨60 * (x.val % 60) + (150 + r.val) % 60, by omega⟩ = 0x3F800000#32 then 0x3F80#16 else 0xBF80#16)
      else 0#16 := by decide +kernel

theorem rows_155 : ∀ (r : Fin 5) (x : Fin 240), Cert.RotateIdeal.lit0 ⟨240 * (155 + r.val) + x.val, by omega⟩
    = if x.val / 60 = (155 + r.val) / 60 then
        (if Cert.RotateRefIdeal.lit0 ⟨60 * (x.val % 60) + (155 + r.val) % 60, by omega⟩ = 0x3F800000#32 then 0x3F80#16 else 0xBF80#16)
      else 0#16 := by decide +kernel

theorem rows_160 : ∀ (r : Fin 5) (x : Fin 240), Cert.RotateIdeal.lit0 ⟨240 * (160 + r.val) + x.val, by omega⟩
    = if x.val / 60 = (160 + r.val) / 60 then
        (if Cert.RotateRefIdeal.lit0 ⟨60 * (x.val % 60) + (160 + r.val) % 60, by omega⟩ = 0x3F800000#32 then 0x3F80#16 else 0xBF80#16)
      else 0#16 := by decide +kernel

theorem rows_165 : ∀ (r : Fin 5) (x : Fin 240), Cert.RotateIdeal.lit0 ⟨240 * (165 + r.val) + x.val, by omega⟩
    = if x.val / 60 = (165 + r.val) / 60 then
        (if Cert.RotateRefIdeal.lit0 ⟨60 * (x.val % 60) + (165 + r.val) % 60, by omega⟩ = 0x3F800000#32 then 0x3F80#16 else 0xBF80#16)
      else 0#16 := by decide +kernel

theorem rows_170 : ∀ (r : Fin 5) (x : Fin 240), Cert.RotateIdeal.lit0 ⟨240 * (170 + r.val) + x.val, by omega⟩
    = if x.val / 60 = (170 + r.val) / 60 then
        (if Cert.RotateRefIdeal.lit0 ⟨60 * (x.val % 60) + (170 + r.val) % 60, by omega⟩ = 0x3F800000#32 then 0x3F80#16 else 0xBF80#16)
      else 0#16 := by decide +kernel

theorem rows_175 : ∀ (r : Fin 5) (x : Fin 240), Cert.RotateIdeal.lit0 ⟨240 * (175 + r.val) + x.val, by omega⟩
    = if x.val / 60 = (175 + r.val) / 60 then
        (if Cert.RotateRefIdeal.lit0 ⟨60 * (x.val % 60) + (175 + r.val) % 60, by omega⟩ = 0x3F800000#32 then 0x3F80#16 else 0xBF80#16)
      else 0#16 := by decide +kernel

end Cert.RotateLit

end
-- ==== Proof.RotateLit6.lean ====
/-
  Rows 180 to 209 of the kernel's table of signs: copies of the reference's table, transposed, along the diagonal.
-/
module

public import proofs.«01_k».proof.RotateIdeal
public import proofs.«01_k».proof.RotateRefIdeal

@[expose] public section

set_option maxRecDepth 16384

noncomputable section

namespace Cert.RotateLit

open Idealize.ShloMosaic

theorem rows_180 : ∀ (r : Fin 5) (x : Fin 240), Cert.RotateIdeal.lit0 ⟨240 * (180 + r.val) + x.val, by omega⟩
    = if x.val / 60 = (180 + r.val) / 60 then
        (if Cert.RotateRefIdeal.lit0 ⟨60 * (x.val % 60) + (180 + r.val) % 60, by omega⟩ = 0x3F800000#32 then 0x3F80#16 else 0xBF80#16)
      else 0#16 := by decide +kernel

theorem rows_185 : ∀ (r : Fin 5) (x : Fin 240), Cert.RotateIdeal.lit0 ⟨240 * (185 + r.val) + x.val, by omega⟩
    = if x.val / 60 = (185 + r.val) / 60 then
        (if Cert.RotateRefIdeal.lit0 ⟨60 * (x.val % 60) + (185 + r.val) % 60, by omega⟩ = 0x3F800000#32 then 0x3F80#16 else 0xBF80#16)
      else 0#16 := by decide +kernel

theorem rows_190 : ∀ (r : Fin 5) (x : Fin 240), Cert.RotateIdeal.lit0 ⟨240 * (190 + r.val) + x.val, by omega⟩
    = if x.val / 60 = (190 + r.val) / 60 then
        (if Cert.RotateRefIdeal.lit0 ⟨60 * (x.val % 60) + (190 + r.val) % 60, by omega⟩ = 0x3F800000#32 then 0x3F80#16 else 0xBF80#16)
      else 0#16 := by decide +kernel

theorem rows_195 : ∀ (r : Fin 5) (x : Fin 240), Cert.RotateIdeal.lit0 ⟨240 * (195 + r.val) + x.val, by omega⟩
    = if x.val / 60 = (195 + r.val) / 60 then
        (if Cert.RotateRefIdeal.lit0 ⟨60 * (x.val % 60) + (195 + r.val) % 60, by omega⟩ = 0x3F800000#32 then 0x3F80#16 else 0xBF80#16)
      else 0#16 := by decide +kernel

theorem rows_200 : ∀ (r : Fin 5) (x : Fin 240), Cert.RotateIdeal.lit0 ⟨240 * (200 + r.val) + x.val, by omega⟩
    = if x.val / 60 = (200 + r.val) / 60 then
        (if Cert.RotateRefIdeal.lit0 ⟨60 * (x.val % 60) + (200 + r.val) % 60, by omega⟩ = 0x3F800000#32 then 0x3F80#16 else 0xBF80#16)
      else 0#16 := by decide +kernel

theorem rows_205 : ∀ (r : Fin 5) (x : Fin 240), Cert.RotateIdeal.lit0 ⟨240 * (205 + r.val) + x.val, by omega⟩
    = if x.val / 60 = (205 + r.val) / 60 then
        (if Cert.RotateRefIdeal.lit0 ⟨60 * (x.val % 60) + (205 + r.val) % 60, by omega⟩ = 0x3F800000#32 then 0x3F80#16 else 0xBF80#16)
      else 0#16 := by decide +kernel

end Cert.RotateLit

end
-- ==== Proof.RotateLit7.lean ====
/-
  Rows 210 to 239 of the kernel's table of signs: copies of the reference's table, transposed, along the diagonal.
-/
module

public import proofs.«01_k».proof.RotateIdeal
public import proofs.«01_k».proof.RotateRefIdeal

@[expose] public section

set_option maxRecDepth 16384

noncomputable section

namespace Cert.RotateLit

open Idealize.ShloMosaic

theorem rows_210 : ∀ (r : Fin 5) (x : Fin 240), Cert.RotateIdeal.lit0 ⟨240 * (210 + r.val) + x.val, by omega⟩
    = if x.val / 60 = (210 + r.val) / 60 then
        (if Cert.RotateRefIdeal.lit0 ⟨60 * (x.val % 60) + (210 + r.val) % 60, by omega⟩ = 0x3F800000#32 then 0x3F80#16 else 0xBF80#16)
      else 0#16 := by decide +kernel

theorem rows_215 : ∀ (r : Fin 5) (x : Fin 240), Cert.RotateIdeal.lit0 ⟨240 * (215 + r.val) + x.val, by omega⟩
    = if x.val / 60 = (215 + r.val) / 60 then
        (if Cert.RotateRefIdeal.lit0 ⟨60 * (x.val % 60) + (215 + r.val) % 60, by omega⟩ = 0x3F800000#32 then 0x3F80#16 else 0xBF80#16)
      else 0#16 := by decide +kernel

theorem rows_220 : ∀ (r : Fin 5) (x : Fin 240), Cert.RotateIdeal.lit0 ⟨240 * (220 + r.val) + x.val, by omega⟩
    = if x.val / 60 = (220 + r.val) / 60 then
        (if Cert.RotateRefIdeal.lit0 ⟨60 * (x.val % 60) + (220 + r.val) % 60, by omega⟩ = 0x3F800000#32 then 0x3F80#16 else 0xBF80#16)
      else 0#16 := by decide +kernel

theorem rows_225 : ∀ (r : Fin 5) (x : Fin 240), Cert.RotateIdeal.lit0 ⟨240 * (225 + r.val) + x.val, by omega⟩
    = if x.val / 60 = (225 + r.val) / 60 then
        (if Cert.RotateRefIdeal.lit0 ⟨60 * (x.val % 60) + (225 + r.val) % 60, by omega⟩ = 0x3F800000#32 then 0x3F80#16 else 0xBF80#16)
      else 0#16 := by decide +kernel

theorem rows_230 : ∀ (r : Fin 5) (x : Fin 240), Cert.RotateIdeal.lit0 ⟨240 * (230 + r.val) + x.val, by omega⟩
    = if x.val / 60 = (230 + r.val) / 60 then
        (if Cert.RotateRefIdeal.lit0 ⟨60 * (x.val % 60) + (230 + r.val) % 60, by omega⟩ = 0x3F800000#32 then 0x3F80#16 else 0xBF80#16)
      else 0#16 := by decide +kernel

theorem rows_235 : ∀ (r : Fin 5) (x : Fin 240), Cert.RotateIdeal.lit0 ⟨240 * (235 + r.val) + x.val, by omega⟩
    = if x.val / 60 = (235 + r.val) / 60 then
        (if Cert.RotateRefIdeal.lit0 ⟨60 * (x.val % 60) + (235 + r.val) % 60, by omega⟩ = 0x3F800000#32 then 0x3F80#16 else 0xBF80#16)
      else 0#16 := by decide +kernel

end Cert.RotateLit

end
-- ==== Proof.RotateLit.lean ====
/-
  The two tables of signs: the kernel's 240 by 240 matrix is four copies of the reference's 60 by 60 one, transposed,
  along its diagonal, and zero elsewhere.
-/
module

public import proofs.«01_k».proof.RotateIdeal
public import proofs.«01_k».proof.RotateRefIdeal
public import Idealize.ShloMosaic.Lib.IdealHost
public import proofs.«01_k».proof.Proof.RotateLit0
public import proofs.«01_k».proof.Proof.RotateLit1
public import proofs.«01_k».proof.Proof.RotateLit2
public import proofs.«01_k».proof.Proof.RotateLit3
public import proofs.«01_k».proof.Proof.RotateLit4
public import proofs.«01_k».proof.Proof.RotateLit5
public import proofs.«01_k».proof.Proof.RotateLit6
public import proofs.«01_k».proof.Proof.RotateLit7

@[expose] public section

set_option maxRecDepth 16384

noncomputable section

namespace Cert.RotateLit

open Idealize.ShloMosaic

theorem lit_eq (r x : Fin 240) : Cert.RotateIdeal.lit0 ⟨240 * r.val + x.val, by omega⟩
    = if x.val / 60 = r.val / 60 then
        (if Cert.RotateRefIdeal.lit0 ⟨60 * (x.val % 60) + r.val % 60, by omega⟩ = 0x3F800000#32 then 0x3F80#16 else 0xBF80#16)
      else 0#16 := by
  have step : ∀ (q : Nat) (hq : q + 5 ≤ 240), r.val / 5 * 5 = q → (∀ (r : Fin 5) (x : Fin 240), Cert.RotateIdeal.lit0 ⟨240 * (q + r.val) + x.val, by omega⟩
    = if x.val / 60 = (q + r.val) / 60 then
        (if Cert.RotateRefIdeal.lit0 ⟨60 * (x.val % 60) + (q + r.val) % 60, by omega⟩ = 0x3F800000#32 then 0x3F80#16 else 0xBF80#16)
      else 0#16) → Cert.RotateIdeal.lit0 ⟨240 * r.val + x.val, by omega⟩
    = if x.val / 60 = r.val / 60 then
        (if Cert.RotateRefIdeal.lit0 ⟨60 * (x.val % 60) + r.val % 60, by omega⟩ = 0x3F800000#32 then 0x3F80#16 else 0xBF80#16)
      else 0#16 := fun q hq h hyp => by
    obtain ⟨rv, hr⟩ := r
    simp only at h
    obtain ⟨s, hs, he⟩ : ∃ s, s < 5 ∧ rv = q + s := ⟨rv - q, by omega, by omega⟩
    subst he
    exact hyp ⟨s, hs⟩ x
  have hr := r.isLt
  rcases (by omega : r.val / 5 = 0 ∨ r.val / 5 = 1 ∨ r.val / 5 = 2 ∨ r.val / 5 = 3 ∨ r.val / 5 = 4 ∨ r.val / 5 = 5 ∨ r.val / 5 = 6 ∨ r.val / 5 = 7 ∨ r.val / 5 = 8 ∨ r.val / 5 = 9 ∨ r.val / 5 = 10 ∨ r.val / 5 = 11 ∨ r.val / 5 = 12 ∨ r.val / 5 = 13 ∨ r.val / 5 = 14 ∨ r.val / 5 = 15 ∨ r.val / 5 = 16 ∨ r.val / 5 = 17 ∨ r.val / 5 = 18 ∨ r.val / 5 = 19 ∨ r.val / 5 = 20 ∨ r.val / 5 = 21 ∨ r.val / 5 = 22 ∨ r.val / 5 = 23 ∨ r.val / 5 = 24 ∨ r.val / 5 = 25 ∨ r.val / 5 = 26 ∨ r.val / 5 = 27 ∨ r.val / 5 = 28 ∨ r.val / 5 = 29 ∨ r.val / 5 = 30 ∨ r.val / 5 = 31 ∨ r.val / 5 = 32 ∨ r.val / 5 = 33 ∨ r.val / 5 = 34 ∨ r.val / 5 = 35 ∨ r.val / 5 = 36 ∨ r.val / 5 = 37 ∨ r.val / 5 = 38 ∨ r.val / 5 = 39 ∨ r.val / 5 = 40 ∨ r.val / 5 = 41 ∨ r.val / 5 = 42 ∨ r.val / 5 = 43 ∨ r.val / 5 = 44 ∨ r.val / 5 = 45 ∨ r.val / 5 = 46 ∨ r.val / 5 = 47) with h | h | h | h | h | h | h | h | h | h | h | h | h | h | h | h | h | h | h | h | h | h | h | h | h | h | h | h | h | h | h | h | h | h | h | h | h | h | h | h | h | h | h | h | h | h | h | h
  · exact step 0 (by decide) (by omega) rows_0
  · exact step 5 (by decide) (by omega) rows_5
  · exact step 10 (by decide) (by omega) rows_10
  · exact step 15 (by decide) (by omega) rows_15
  · exact step 20 (by decide) (by omega) rows_20
  · exact step 25 (by decide) (by omega) rows_25
  · exact step 30 (by decide) (by omega) rows_30
  · exact step 35 (by decide) (by omega) rows_35
  · exact step 40 (by decide) (by omega) rows_40
  · exact step 45 (by decide) (by omega) rows_45
  · exact step 50 (by decide) (by omega) rows_50
  · exact step 55 (by decide) (by omega) rows_55
  · exact step 60 (by decide) (by omega) rows_60
  · exact step 65 (by decide) (by omega) rows_65
  · exact step 70 (by decide) (by omega) rows_70
  · exact step 75 (by decide) (by omega) rows_75
  · exact step 80 (by decide) (by omega) rows_80
  · exact step 85 (by decide) (by omega) rows_85
  · exact step 90 (by decide) (by omega) rows_90
  · exact step 95 (by decide) (by omega) rows_95
  · exact step 100 (by decide) (by omega) rows_100
  · exact step 105 (by decide) (by omega) rows_105
  · exact step 110 (by decide) (by omega) rows_110
  · exact step 115 (by decide) (by omega) rows_115
  · exact step 120 (by decide) (by omega) rows_120
  · exact step 125 (by decide) (by omega) rows_125
  · exact step 130 (by decide) (by omega) rows_130
  · exact step 135 (by decide) (by omega) rows_135
  · exact step 140 (by decide) (by omega) rows_140
  · exact step 145 (by decide) (by omega) rows_145
  · exact step 150 (by decide) (by omega) rows_150
  · exact step 155 (by decide) (by omega) rows_155
  · exact step 160 (by decide) (by omega) rows_160
  · exact step 165 (by decide) (by omega) rows_165
  · exact step 170 (by decide) (by omega) rows_170
  · exact step 175 (by decide) (by omega) rows_175
  · exact step 180 (by decide) (by omega) rows_180
  · exact step 185 (by decide) (by omega) rows_185
  · exact step 190 (by decide) (by omega) rows_190
  · exact step 195 (by decide) (by omega) rows_195
  · exact step 200 (by decide) (by omega) rows_200
  · exact step 205 (by decide) (by omega) rows_205
  · exact step 210 (by decide) (by omega) rows_210
  · exact step 215 (by decide) (by omega) rows_215
  · exact step 220 (by decide) (by omega) rows_220
  · exact step 225 (by decide) (by omega) rows_225
  · exact step 230 (by decide) (by omega) rows_230
  · exact step 235 (by decide) (by omega) rows_235

theorem ref_lit : ∀ i j : Fin 60, Cert.RotateRefIdeal.lit0 ⟨60 * i.val + j.val, by omega⟩ = 0x3F800000#32
    ∨ Cert.RotateRefIdeal.lit0 ⟨60 * i.val + j.val, by omega⟩ = 0xBF800000#32 := by decide +kernel

theorem neg32 : Ideal.ofBits FTy.f32 0xBF800000#32 = ((-(1 : ℝ)) : EReal) := by
  simp [Ideal.ofBits, Ideal.ieee, -EReal.coe_mul, -EReal.coe_neg]; norm_num

/-- The kernel's sign is the reference's, on the diagonal's blocks, -/
theorem sign_eq (r x : Fin 240) (h : x.val / 60 = r.val / 60) : Ideal.ofBits FTy.bf16 (Cert.RotateIdeal.lit0 ⟨240 * r.val + x.val, by omega⟩)
    = Ideal.ofBits FTy.f32 (Cert.RotateRefIdeal.lit0 ⟨60 * (x.val % 60) + r.val % 60, by omega⟩) := by
  rw [lit_eq, if_pos h]
  rcases ref_lit ⟨x.val % 60, by omega⟩ ⟨r.val % 60, by omega⟩ with e | e
  · simp only at e
    rw [e, if_pos rfl]
    exact Ideal.ofBits_one_bf16.trans Ideal.ofBits_one_f32.symm
  · simp only at e
    rw [e, if_neg (by decide)]
    exact Ideal.ofBits_neg_one_bf16.trans neg32.symm

/-- and zero off them. -/
theorem sign_off (r x : Fin 240) (h : ¬ x.val / 60 = r.val / 60) : Ideal.ofBits FTy.bf16 (Cert.RotateIdeal.lit0 ⟨240 * r.val + x.val, by omega⟩) = 0 := by
  rw [lit_eq, if_neg h]
  exact Ideal.ofBits_zero_bf16

end Cert.RotateLit

end
-- ==== Proof.RotateRefPoint.lean ====
/-
  The rotation's reference at an index.
-/
module

public import proofs.«01_k».proof.Proof.Gen.RotateRefIdeal.Run
public import Idealize.ShloMosaic.Lib.Pointwise

@[expose] public section

set_option maxRecDepth 16384

noncomputable section

namespace Cert.RotateRefIdeal.Point

open Idealize.ShloMosaic Idealize.ShloMosaic.TcCoe Idealize.SL.Sem
open Cert.RotateRefIdeal Cert.RotateRefIdeal.Gen

/-- The matrix of the rotation, as the reference holds it. -/
def hmat : FVec Ideal S60x60 .f32 := fun i => FloatOps.ofBits .f32 (lit0 (S60x60.rowMajor i))

/-- The rotated activations, by token and feature, over a given matrix. -/
def rowsOf (x : FVec Ideal S3x640x128x60 .bf16) (hm : FVec Ideal S60x60 .f32) : FVec Ideal S3x640x7680 .f32 :=
  shapeCast S3x640x7680 (mulf (Host.dotGeneral dot_S3x640x128x60_S60x60_S3x640x128x60_3_0_012_1_n_n (some .fp32) (extf .f32 x bitsLt_bf16_f32) hm) (broadcastInDim S3x640x128x60 ![] bcast_S_S3x640x128x60 (constant S_ .f32 0x3E0432A5#32))) shapeCasts_S3x640x128x60_S3x640x7680

/-- Each token's peak. -/
def peak (z : FVec Ideal S3x640x7680 .f32) : FVec Ideal S3x640 .f32 :=
  Host.reduce FloatOps.maximumf (Host.absf z) (constant S_ .f32 0xFF800000#32) reducesTo_S3x640x7680_S3x640_d2 h_S_

/-- The scales of given peaks. -/
def scaleOf (a : FVec Ideal S3x640 .f32) : FVec Ideal S3x640 .f32 :=
  select (cmpf .oeq a (broadcastInDim S3x640 ![] bcast_S_S3x640 (constant S_ .f32 0x00000000#32))) (broadcastInDim S3x640 ![] bcast_S_S3x640 (constant S_ .f32 0x3F800000#32)) (Host.divf a (broadcastInDim S3x640 ![] bcast_S_S3x640 (constant S_ .f32 0x40E00000#32)))

/-- The codes of given rows at given scales. -/
def codesOf (z : FVec Ideal S3x640x7680 .f32) (s : FVec Ideal S3x640 .f32) : IVec S3x640x7680 8 :=
  trunci 8 (fptosi 32 (minimumf (broadcastInDim S3x640x7680 ![] bcast_S_S3x640x7680 (sitofp .f32 (constantI S_ 32 7#32))) (maximumf (broadcastInDim S3x640x7680 ![] bcast_S_S3x640x7680 (sitofp .f32 (constantI S_ 32 4294967289#32))) (Host.roundeven (Host.divf z (broadcastInDim S3x640x7680 ![0, 1, 2] bcast_S3x640x1_S3x640x7680_0_1_2 (broadcastInDim S3x640x1 ![0, 1] bcast_S3x640_S3x640x1_0_1 s))))))) natLt_8_32

/-- Given scales spread over the lanes. -/
def spreadOf (s : FVec Ideal S3x640 .f32) : FVec Ideal S1920x128 .f32 :=
  broadcastInDim S1920x128 ![0, 1] bcast_S1920x1_S1920x128_0_1 (shapeCast S1920x1 s shapeCasts_S3x640_S1920x1)

theorem rowsOf_apply (x : FVec Ideal S3x640x128x60 .bf16) (hm : FVec Ideal S60x60 .f32) (b : Fin 3) (s : Fin 640) (n : Fin 7680) :
    rowsOf x hm (ix3 b s n) = (∑ k : Fin 60, x (ix4 b s ⟨n.val / 60, by omega⟩ k) * hm (ix2 k ⟨n.val % 60, by omega⟩)) * Ideal.ofBits FTy.f32 0x3E0432A5#32 := by
  pointwise [rowsOf]

theorem peak_apply (z : FVec Ideal S3x640x7680 .f32) (b : Fin 3) (s : Fin 640) :
    peak z (ix2 b s) = Finset.fold max (Ideal.ofBits FTy.f32 0xFF800000#32) (fun n : Fin 7680 => FloatOps.absf (F := Ideal) (φ := .f32) (z (ix3 b s n))) Finset.univ := by
  pointwise [peak]

theorem scaleOf_apply (a : FVec Ideal S3x640 .f32) (b : Fin 3) (s : Fin 640) :
    scaleOf a (ix2 b s) = if a (ix2 b s) = (0 : EReal) then (1 : EReal) else Ideal.div (a (ix2 b s)) (Ideal.ofBits FTy.f32 0x40E00000#32) := by
  pointwise [scaleOf]

theorem codesOf_apply (z : FVec Ideal S3x640x7680 .f32) (a : FVec Ideal S3x640 .f32) (b : Fin 3) (s : Fin 640) (n : Fin 7680) :
    codesOf z a (ix3 b s n) = BitVec.setWidth 8 (FloatOps.fptosi (F := Ideal) (φ := .f32) 32
        (min (FloatOps.sitofp (F := Ideal) FTy.f32 7#32)
          (max (FloatOps.sitofp (F := Ideal) FTy.f32 4294967289#32)
            (Ideal.liftRound Ideal.roundHalfEven (Ideal.div (z (ix3 b s n)) (a (ix2 b s))))))) := by
  pointwise [codesOf]

theorem spreadOf_apply (a : FVec Ideal S3x640 .f32) (b : Fin 1920) (s : Fin 128) :
    spreadOf a (ix2 b s) = a (ix2 ⟨b.val / 640, by omega⟩ ⟨b.val % 640, by omega⟩) := by
  pointwise [spreadOf]

end Cert.RotateRefIdeal.Point

end
-- ==== Proof.RotateTie.lean ====
/-
  The rotation's kernel against the reference: each token's rotated row is the reference's, so its scale, its codes and
  the scale spread over the lanes are.
-/
module

public import proofs.«01_k».proof.Proof.RotateArrays
public import proofs.«01_k».proof.Proof.RotateLit
public import proofs.«01_k».proof.Proof.RotateRefPoint
public import Idealize.ShloMosaic.Lib.Claim

@[expose] public section

set_option maxRecDepth 16384

noncomputable section

namespace Cert.RotateTie

open Idealize.ShloMosaic Idealize.ShloMosaic.TcCoe Idealize.SL.Sem
open Cert.RotateIdeal Cert.RotateIdeal.Gen Cert.RotateIdeal.Block

variable (m : (ℓ : Loc nD τ sig) → Buf (Elt Ideal) ℓ) (c : Dev nD)

/-- A sum over 240 that is zero off one block of 60. -/
theorem sum_block (f : Fin 240 → EReal) (a : Nat) (ha : a < 4) (h0 : ∀ x : Fin 240, ¬ x.val / 60 = a → f x = 0) :
    ∑ x : Fin 240, f x = ∑ k : Fin 60, f ⟨60 * a + k.val, by omega⟩ := by
  have h := Finset.sum_map Finset.univ (⟨fun k : Fin 60 => (⟨60 * a + k.val, by omega⟩ : Fin 240), fun x y hxy => Fin.ext (by have := congrArg Fin.val hxy; simp only at this; omega)⟩ : Fin 60 ↪ Fin 240) f
  refine Eq.trans (Eq.symm ?_) h
  refine Finset.sum_subset (Finset.subset_univ _) fun x _ hx => h0 x fun e => hx ?_
  exact Finset.mem_map.mpr ⟨⟨x.val % 60, by omega⟩, Finset.mem_univ _, Fin.ext (by show 60 * a + x.val % 60 = x.val; omega)⟩

/-- The token of a block's lane, pair, half is the one of its number. -/
theorem tok_eq (t : Fin cfg0.N) (P : Fin 2) (h : Fin 60) (d : Fin 128) (B : Fin 2) (q : Fin 128) (hq : q.val < 120) (b : Fin 3) (s : Fin 640)
    (hr : 640 * b.val + s.val = 480 * t.val + 4 * q.val + 2 * P.val + B.val) :
    tok (iblk m c 0 t) (iblk m c 1 t) (iblk m c 2 t) P h d B q = acts m c (ix4 b s d h) := by
  have ht := pt_lt t
  unfold tok
  by_cases h0 : q.val < 40
  · rw [dif_pos h0]
    exact iblk0_apply m c t h _ d b s (by omega) (by simp only; omega)
  · rw [dif_neg h0]
    by_cases h1 : q.val < 80
    · rw [dif_pos h1]
      exact iblk1_apply m c t h _ d b s (by omega) (by simp only; omega)
    · rw [dif_neg h1, dif_pos hq]
      exact iblk2_apply m c t h _ d b s (by omega) (by simp only; omega)

/-- The reference's rows of the launched activations. -/
abbrev zref : Cert.RotateRefIdeal.S3x640x7680.Idx → EReal := Cert.RotateRefIdeal.Point.rowsOf (acts m c) Cert.RotateRefIdeal.Point.hmat

theorem hmat_apply (i j : Fin 60) : (Cert.RotateRefIdeal.Point.hmat (ix2 i j) : EReal) = Ideal.ofBits FTy.f32 (Cert.RotateRefIdeal.lit0 ⟨60 * i.val + j.val, by omega⟩) :=
  congrArg (fun q => Ideal.ofBits FTy.f32 (Cert.RotateRefIdeal.lit0 q)) (Fin.ext (by rw [Shape.rowMajor_val_two]; show i.val * 60 + j.val = 60 * i.val + j.val; omega))

/-- A token's rotated row is the reference's. -/
theorem row_eq (t : Fin cfg0.N) (p q : Nat) (hp : p < 4) (hq : q < 120) (b : Fin 3) (s : Fin 640) (n : Fin 7680)
    (hr : 640 * b.val + s.val = 480 * t.val + 4 * q + p) :
    row (iblk m c 0 t) (iblk m c 1 t) (iblk m c 2 t) (iblk m c 3 t) p q hp (by omega) n = zref m c (ix3 b s n) := by
  refine Eq.trans ?_ (Cert.RotateRefIdeal.Point.rowsOf_apply _ _ b s n).symm
  unfold row rot
  refine congrArg (fun z : EReal => z * Ideal.ofBits FTy.f32 0x3E0432A5#32) ?_
  refine (sum_block _ (n.val % 240 / 60) (by omega) fun x hx => ?_).trans ?_
  · rw [iblk3_apply]
    rw [Cert.RotateLit.sign_off ⟨n.val % 240, Nat.mod_lt _ (by decide)⟩ x hx, zero_mul]
  · refine Finset.sum_congr rfl fun k _ => ?_
    rw [iblk3_apply, Cert.RotateLit.sign_eq ⟨n.val % 240, Nat.mod_lt _ (by decide)⟩ ⟨60 * (n.val % 240 / 60) + k.val, by omega⟩ (by simp only; omega), hmat_apply, mul_comm]
    refine congr (congrArg HMul.hMul ?_) ?_
    · have e3 : (128 * (p % 2) + q) % 128 = q := by omega
      have e4 : (128 * (p % 2) + q) / 128 = p % 2 := by omega
      refine (tok_eq m c t ⟨p / 2, by omega⟩ _ _ _ _ (by show (128 * (p % 2) + q) % 128 < 120; omega) b s (by show _ = 480 * t.val + 4 * ((128 * (p % 2) + q) % 128) + 2 * (p / 2) + (128 * (p % 2) + q) / 128; rw [e3, e4]; omega)).trans ?_
      refine congrArg (acts m c) ?_
      have e1 : (240 * (n.val / 240) + (60 * (n.val % 240 / 60) + k.val)) / 60 = n.val / 60 := by omega
      have e2 : (240 * (n.val / 240) + (60 * (n.val % 240 / 60) + k.val)) % 60 = k.val := by omega
      exact congr (congrArg (ix4 b s) (Fin.ext e1)) (Fin.ext e2)
    · refine congrArg (fun q => Ideal.ofBits FTy.f32 (Cert.RotateRefIdeal.lit0 q)) (Fin.ext ?_)
      show 60 * ((60 * (n.val % 240 / 60) + k.val) % 60) + n.val % 240 % 60 = 60 * k.val + n.val % 60
      omega

theorem krow_eq (r : Fin 1920) (b : Fin 3) (s : Fin 640) (n : Fin 7680) (hr : 640 * b.val + s.val = r.val) : krow m c r n = zref m c (ix3 b s n) :=
  row_eq m c _ _ _ _ (by omega) b s n (by show _ = 480 * (r.val / 480) + 4 * (r.val % 480 / 4) + r.val % 480 % 4; omega)

/-- The reference's scales. -/
abbrev sref : Cert.RotateRefIdeal.S3x640.Idx → EReal := Cert.RotateRefIdeal.Point.scaleOf (Cert.RotateRefIdeal.Point.peak (zref m c))

theorem sref_apply (b : Fin 3) (s : Fin 640) : sref m c (ix2 b s) = scale (peak fun n => zref m c (ix3 b s n)) := by
  refine (Cert.RotateRefIdeal.Point.scaleOf_apply _ b s).trans ?_
  rw [Cert.RotateRefIdeal.Point.peak_apply]
  rfl

theorem codes_eq : (shapeCast S3x640x7680 (G4 m c) shapeCasts_S1920x7680_S3x640x7680 : S3x640x7680.Idx → BitVec 8)
    = Cert.RotateRefIdeal.Point.codesOf (zref m c) (sref m c) := by
  funext y
  idx_vars y
  refine Eq.trans ?_ (Cert.RotateRefIdeal.Point.codesOf_apply _ _ y0 y1 y2).symm
  rw [sref_apply]
  have e : (shapeCast S3x640x7680 (G4 m c) shapeCasts_S1920x7680_S3x640x7680 : S3x640x7680.Idx → BitVec 8) (ix3 y0 y1 y2) = G4 m c (ix2 ⟨640 * y0.val + y1.val, by omega⟩ y2) := by
    generalize G4 m c = G
    refine congrArg G (Shape.reshapeEquiv_eq_of_rowMajor _ ?_)
    rw [Shape.rowMajor_val_two, Shape.rowMajor_val_three]
    show (640 * y0.val + y1.val) * 7680 + y2.val = (y0.val * 640 + y1.val) * 7680 + y2.val
    ring
  rw [e]
  show BitVec.setWidth 8 (quant (krow m c ⟨640 * y0.val + y1.val, _⟩ y2) (scale (peak (krow m c ⟨640 * y0.val + y1.val, _⟩)))) = _
  rw [show krow m c ⟨640 * y0.val + y1.val, by omega⟩ = fun n => zref m c (ix3 y0 y1 n) from funext fun n => krow_eq m c _ y0 y1 n rfl]
  rfl

theorem scales_eq : (shapeCast S3x640 (transpose S4x120x4 [0, 2, 1] (extractStridedSlice S4x4x120 ![0, 0, 0] (G6 m c) slices_S4x4x128_S4x4x120_0_0_0) transposes_S4x4x120_S4x120x4_0_2_1) shapeCasts_S4x120x4_S3x640 : S3x640.Idx → EReal)
    = sref m c := by
  funext y
  idx_vars y
  rw [sref_apply]
  have e : (shapeCast S3x640 (transpose S4x120x4 [0, 2, 1] (extractStridedSlice S4x4x120 ![0, 0, 0] (G6 m c) slices_S4x4x128_S4x4x120_0_0_0) transposes_S4x4x120_S4x120x4_0_2_1) shapeCasts_S4x120x4_S3x640 : S3x640.Idx → EReal) (ix2 y0 y1)
      = G6 m c (ix3 ⟨(640 * y0.val + y1.val) / 480, by omega⟩ ⟨(640 * y0.val + y1.val) % 4, by omega⟩ ⟨(640 * y0.val + y1.val) / 4 % 120, by omega⟩) := by
    generalize G6 m c = G
    have e1 : (shapeCast S3x640 (transpose S4x120x4 [0, 2, 1] (extractStridedSlice S4x4x120 ![0, 0, 0] G slices_S4x4x128_S4x4x120_0_0_0) transposes_S4x4x120_S4x120x4_0_2_1) shapeCasts_S4x120x4_S3x640 : S3x640.Idx → EReal) (ix2 y0 y1)
        = (transpose S4x120x4 [0, 2, 1] (extractStridedSlice S4x4x120 ![0, 0, 0] G slices_S4x4x128_S4x4x120_0_0_0) transposes_S4x4x120_S4x120x4_0_2_1 : S4x120x4.Idx → EReal)
          (ix3 ⟨(640 * y0.val + y1.val) / 480, by omega⟩ ⟨(640 * y0.val + y1.val) / 4 % 120, by omega⟩ ⟨(640 * y0.val + y1.val) % 4, by omega⟩) := by
      refine congrArg (transpose S4x120x4 [0, 2, 1] (extractStridedSlice S4x4x120 ![0, 0, 0] G slices_S4x4x128_S4x4x120_0_0_0) transposes_S4x4x120_S4x120x4_0_2_1) (Shape.reshapeEquiv_eq_of_rowMajor _ ?_)
      rw [Shape.rowMajor_val_two, Shape.rowMajor_val_three]
      show ((640 * y0.val + y1.val) / 480 * 120 + (640 * y0.val + y1.val) / 4 % 120) * 4 + (640 * y0.val + y1.val) % 4 = y0.val * 640 + y1.val
      omega
    rw [e1]
    pointwise
  rw [e]
  unfold G6
  refine congrArg (fun z => scale (peak z)) (funext fun n => ?_)
  exact row_eq m c ⟨(640 * y0.val + y1.val) / 480, _⟩ _ _ _ (by show (640 * y0.val + y1.val) / 4 % 120 < 120; omega) y0 y1 n
    (by show _ = 480 * ((640 * y0.val + y1.val) / 480) + 4 * ((640 * y0.val + y1.val) / 4 % 120) + (640 * y0.val + y1.val) % 4; omega)

theorem spread_eq : G5 m c = Cert.RotateRefIdeal.Point.spreadOf (sref m c) := by
  funext y
  idx_vars y
  refine Eq.trans ?_ (Cert.RotateRefIdeal.Point.spreadOf_apply _ y0 y1).symm
  rw [sref_apply]
  exact congrArg (fun z => scale (peak z)) (funext fun n => krow_eq m c _ _ _ n (by show 640 * (y0.val / 640) + y0.val % 640 = y0.val; omega))

/-- The kernel's run, its results by the arrays. -/
theorem run (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v5) = (shapeCast S3x640x7680 (G4 m c) shapeCasts_S1920x7680_S3x640x7680 : S3x640x7680.Idx → BitVec 8)
      ∧ r.2.mem ((c.tc : Thread nD τ).loc main_v4) = (shapeCast S3x640 (transpose S4x120x4 [0, 2, 1] (extractStridedSlice S4x4x120 ![0, 0, 0] (G6 m c) slices_S4x4x128_S4x4x120_0_0_0) transposes_S4x4x120_S4x120x4_0_2_1) shapeCasts_S4x120x4_S3x640 : S3x640.Idx → EReal)
      ∧ r.2.mem ((c.tc : Thread nD τ).loc main_v1_1) = G5 m c
      ∧ r.2.mem ((c.tc : Thread nD τ).loc main_arg0) = m ((c.tc : Thread nD τ).loc main_arg0)) := by
  run_from (Gen.run_main m ρ)
  · have e : Pipeline.withArrays (cfgs 0).spec c (V0 m c) (fun w => (dats m 0 c).arrAt w (cfgs 0).N) (Proc.tc.devRef main_v1_0) = G4 m c :=
      ((dats m 0 c).withArrays_arrAt sharedIn0 (V0 m c) (A_eq m c) 4).trans (arr4 m c)
    unfold Pipeline.afterTail₀
    show StableHlo.after [_, _, _, _] _ _ = _
    after_results_simp
    rw [e]
    rfl
  · have e : Pipeline.withArrays (cfgs 0).spec c (V0 m c) (fun w => (dats m 0 c).arrAt w (cfgs 0).N) (Proc.tc.devRef main_v1_2) = G6 m c :=
      ((dats m 0 c).withArrays_arrAt sharedIn0 (V0 m c) (A_eq m c) 6).trans (arr6 m c)
    unfold Pipeline.afterTail₀
    show StableHlo.after [_, _, _, _] _ _ = _
    after_results_simp
    rw [e]
    rfl
  · exact arr5 m c
  · exact W_main_arg0 m (dats m) c

end Cert.RotateTie

end
-- ==== Proof.RotateRefRun.lean ====
/-
  The rotation's reference, run: its three results as the rows, the scales and the codes named in RotateRefPoint.
-/
module

public import proofs.«01_k».proof.Proof.RotateRefPoint
public import proofs.«01_k».proof.Proof.Gen.RotateRefIdeal.Run

@[expose] public section

set_option maxRecDepth 16384

noncomputable section

namespace Cert.RotateRefIdeal.Point

open Idealize.ShloMosaic Idealize.ShloMosaic.TcCoe Idealize.SL.Sem
open Cert.RotateRefIdeal Cert.RotateRefIdeal.Gen

theorem run_eq (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = codesOf (rowsOf (m ((c.tc : Thread nD τ).loc main_arg0)) hmat) (scaleOf (peak (rowsOf (m ((c.tc : Thread nD τ).loc main_arg0)) hmat)))
      ∧ r.2.mem ((c.tc : Thread nD τ).loc main_v11) = scaleOf (peak (rowsOf (m ((c.tc : Thread nD τ).loc main_arg0)) hmat))
      ∧ r.2.mem ((c.tc : Thread nD τ).loc main_v20) = spreadOf (scaleOf (peak (rowsOf (m ((c.tc : Thread nD τ).loc main_arg0)) hmat)))
      ∧ r.2.mem ((c.tc : Thread nD τ).loc main_arg0) = m ((c.tc : Thread nD τ).loc main_arg0) := by
  refine (θ_run defs _ _).mono (fun _ h c => ?_) (Cert.RotateRefIdeal.Value.run (F := Ideal) m ρ)
  have hc := h c
  unfold codesOf spreadOf scaleOf peak rowsOf hmat
  exact hc

end Cert.RotateRefIdeal.Point

end
-- ==== Proof.lean ====
module

public import proofs.«01_k».proof.Proof.ProjectTie
public import proofs.«01_k».proof.Proof.RotateFrame
public import proofs.«01_k».proof.Proof.RotateIdealFrame
public import proofs.«01_k».proof.Proof.RotateTie
public import proofs.«01_k».proof.Proof.RotateRefRun
public import proofs.«01_k».proof.Defs
public import proofs.«01_k».proof.Proof.Gen.Project.Frame
public import proofs.«01_k».proof.Proof.Gen.ProjectIdeal.Value
public import proofs.«01_k».proof.Proof.Gen.ProjectRefIdeal.Run
public import proofs.«01_k».proof.Proof.Gen.RotateRefIdeal.Run
public import Idealize.ShloMosaic.Adequacy
public import Idealize.ShloMosaic.Init
public import Idealize.ShloMosaic.Lib.Bf16Pair
public import Idealize.ShloMosaic.Lib.Bf16PairInverse
public import Idealize.ShloMosaic.Lib.Quiescent
public import Idealize.ShloMosaic.Lib.Tactic.ValueTie

@[expose] public section

noncomputable section

namespace Cert.Proof

open Idealize.ShloMosaic Idealize.SL.Sem

theorem quiescent_ProjectRefIdeal : quiescent_ProjectRefIdeal := fun m ρ _ =>
  (θ_run Cert.ProjectRefIdeal.defs _ _).mono (fun r h => ⟨fun c => (h c).2, sem_eq_zero_of_no_sems (by decide) r.2⟩)
    (Cert.ProjectRefIdeal.Value.run (F := Ideal) m ρ)

theorem algebraic_ProjectIdeal_ProjectRefIdeal : algebraic_ProjectIdeal_ProjectRefIdeal := by
  intro m ρ m' ρ' _ hagree
  refine ⟨_, Cert.ProjectIdeal.Value.run (F := Ideal) m ρ, ?_⟩
  refine (θ_run Cert.ProjectRefIdeal.defs _ _).mono (fun _ h c => ⟨?_, (h c).2⟩) (Cert.ProjectRefIdeal.Value.run (F := Ideal) m' ρ')
  rw [(h c).1]
  simp only [hagree c]
  exact Cert.ProjectTie.result_eq m c

theorem quiescent_RotateRefIdeal : quiescent_RotateRefIdeal := fun m ρ _ =>
  (θ_run Cert.RotateRefIdeal.defs _ _).mono (fun r h => ⟨fun c => (h c).2.2.2, sem_eq_zero_of_no_sems (by decide) r.2⟩)
    (Cert.RotateRefIdeal.Point.run_eq m ρ)

theorem preserves_Rotate_RotateIdeal : preserves_Rotate_RotateIdeal :=
  open Cert.RotateIdeal IdealRules.bf16_pair in
  ⟨bufferStatement S2x7680x2x128 S2x7680x1x128, statement S1x1x40x2x128 S1x1x40x1x128, packStatement S8x128,
    statement S256x128 S128x128, packStatement S128x128, statement S1x128x2x128 S1x128x1x128,
    statement S1x240x2x128 S1x240x1x128, statement S480x128 S240x128⟩

theorem algebraic_RotateIdeal_RotateRefIdeal : algebraic_RotateIdeal_RotateRefIdeal := by
  intro m ρ m' ρ' _ hagree
  refine ⟨_, _, _, Cert.RotateTie.run m ρ, ?_⟩
  refine (θ_run Cert.RotateRefIdeal.defs _ _).mono (fun _ h c => ⟨?_, ?_, ?_, (h c).2.2.2⟩) (Cert.RotateRefIdeal.Point.run_eq m' ρ')
  · rw [(h c).1, hagree c]
    exact (Cert.RotateTie.codes_eq m c).symm
  · rw [(h c).2.1, hagree c]
    exact (Cert.RotateTie.scales_eq m c).symm
  · rw [(h c).2.2.1, hagree c]
    exact (Cert.RotateTie.spread_eq m c).symm

theorem claim : Cert.Claim := ⟨Cert.Project.Gen.facts, Cert.ProjectIdeal.Gen.facts, Cert.ProjectRefIdeal.Gen.facts,
  Cert.Rotate.Gen.facts, Cert.RotateIdeal.Gen.facts, Cert.RotateRefIdeal.Gen.facts,
  fun m ρ _ => Cert.Project.Gen.frame m ρ, fun m ρ _ => Cert.ProjectIdeal.Gen.frame m ρ, quiescent_ProjectRefIdeal,
  fun m ρ _ => Cert.Rotate.Gen.frame m ρ, fun m ρ _ => Cert.RotateIdeal.Gen.frame m ρ, quiescent_RotateRefIdeal,
  (trivial : preserves_Project_ProjectIdeal), algebraic_ProjectIdeal_ProjectRefIdeal,
  preserves_Rotate_RotateIdeal, algebraic_RotateIdeal_RotateRefIdeal⟩

end Cert.Proof

end
